-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "neg_scale_log2_e" .f32 0xBE38AA3B#32 ((-((1 / 8) * (Real.log 2)⁻¹) : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_v19) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x384 : Shape := ⟨2, ![16384, 384]⟩
abbrev S6 : Shape := ⟨1, ![6]⟩
abbrev S_ : Shape := ⟨0, ![]⟩

class Facts : Prop where
  bcast_S_S16384x384 : S_.BroadcastsInDim S16384x384 (![] : Fin 0 → Fin S16384x384.rank)
  reducesTo_S16384x384_S_d0_1 : S16384x384.ReducesTo [0, 1] S_
  h_S_ : 0 < S_.numel
  bcast_S_S6 : S_.BroadcastsInDim S6 (![] : Fin 0 → Fin S6.rank)
  reducesTo_S6_S_d0 : S6.ReducesTo [0] S_

variable [Facts]

def fn_part1 {F : FTy → Type} [FloatOps F] (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  main_v18

def fn {F : FTy → Type} [FloatOps F] (main_arg0 : FVec F S16384x384 .f32) (main_arg1 : FVec F S16384x384 .f32) (main_arg2 : FVec F S16384x384 .f32) (main_arg3 : FVec F S6 .f32) : IVec S_ 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_c : IVec S_ 1 := constantI S_ 1 1#1
  let main_v3 : IVec S_ 1 := (fun x v => Host.reduce IntOp.andi x v reducesTo_S16384x384_S_d0_1 h_S_) main_v2 main_c
  let main_v4 : FVec F S16384x384 .f32 := Host.absf main_arg1
  let main_cst_0 : FVec F S_ .f32 := constant S_ .f32 0x7F800000#32
  let main_v5 : FVec F S16384x384 .f32 := broadcastInDim S16384x384 ![] bcast_S_S16384x384 main_cst_0
  let main_v6 : IVec S16384x384 1 := cmpf .olt main_v4 main_v5
  let main_c_1 : IVec S_ 1 := constantI S_ 1 1#1
  let main_v7 : IVec S_ 1 := (fun x v => Host.reduce IntOp.andi x v reducesTo_S16384x384_S_d0_1 h_S_) main_v6 main_c_1
  let main_v8 : IVec S_ 1 := andi main_v3 main_v7
  let main_v9 : FVec F S16384x384 .f32 := Host.absf main_arg2
  let main_cst_2 : FVec F S_ .f32 := constant S_ .f32 0x7F800000#32
  let main_v10 : FVec F S16384x384 .f32 := broadcastInDim S16384x384 ![] bcast_S_S16384x384 main_cst_2
  let main_v11 : IVec S16384x384 1 := cmpf .olt main_v9 main_v10
  let main_c_3 : IVec S_ 1 := constantI S_ 1 1#1
  let main_v12 : IVec S_ 1 := (fun x v => Host.reduce IntOp.andi x v reducesTo_S16384x384_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_v13 main_v16
-- ==== Kernel.lean ====
abbrev S16384x384 : Shape := ⟨2, ![16384, 384]⟩
abbrev S6 : Shape := ⟨1, ![6]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x384 : Shape := ⟨2, ![256, 384]⟩
abbrev S2048x384 : Shape := ⟨2, ![2048, 384]⟩
abbrev S256x64 : Shape := ⟨2, ![256, 64]⟩
abbrev S1 : Shape := ⟨1, ![1]⟩

abbrev nBuf : Space → Nat
  | .hbm => 12
  | .vmem => 9
  | .smem => 1
  | _ => 0

abbrev bufTy : (tb : Table) → Fin (tcTables nBuf tb) → BufTy
  | .hbm, ⟨0, _⟩ => ⟨S16384x384, .f32⟩
  | .hbm, ⟨1, _⟩ => ⟨S16384x384, .f32⟩
  | .hbm, ⟨2, _⟩ => ⟨S16384x384, .f32⟩
  | .hbm, ⟨3, _⟩ => ⟨S6, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S16384x384, .f32⟩
  | .local _ .vmem, ⟨0, _⟩ => ⟨S256x384, .f32⟩
  | .local _ .vmem, ⟨1, _⟩ => ⟨S256x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S256x256, .bf16⟩
  | .local _ .vmem, ⟨7, _⟩ => ⟨S256x384, .f32⟩
  | .local _ .vmem, ⟨8, _⟩ => ⟨S256x384, .f32⟩
  | .local _ .smem, ⟨0, _⟩ => ⟨S6, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v32 : BitVec 32 := Scalar.muli arg1 c256_i32
  v32
def k0_off1 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v37 : Index := Scalar.indexCast v33
  let c0_19 : Index := 0#32
  ![v37.toNat, 0]
def k0_off2 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v45 : Index := Scalar.indexCast v33
  let c64_23 : Index := 64#32
  ![v45.toNat, 64]
def k0_off3 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v53 : Index := Scalar.indexCast v33
  let c128_26 : Index := 128#32
  ![v53.toNat, 128]
def k0_off4 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v61 : Index := Scalar.indexCast v33
  let c192_29 : Index := 192#32
  ![v61.toNat, 192]
def k0_off5 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v69 : Index := Scalar.indexCast v33
  let c256_32 : Index := 256#32
  ![v69.toNat, 256]
def k0_off6 (i : grid0.Coords) : Fin 2 → Nat :=
  let arg1 : BitVec 32 := BitVec.ofNat 32 (i 1).val
  let c256_i32 : BitVec 32 := 256#32
  let v32 : BitVec 32 := Scalar.muli arg1 c256_i32
  let v33 : BitVec 32 := v32
  let v77 : Index := Scalar.indexCast v33
  let c320_35 : Index := 320#32
  ![v77.toNat, 320]
@[reducible] def k0_t1_loop (i : grid0.Coords) : Scf.Loop 32 :=
  let c0_i32 : BitVec 32 := 0#32
  let arg1 : BitVec 32 := BitVec.ofNat 32 (i 1).val
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_110 : BitVec 32 := 1#32
  ⟨c0_i32, v281, c1_i32_110⟩
def k0_mult2 (i : grid0.Coords) (k0_t1 : Fin (k0_t1_loop i).trips) : BitVec 32 :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  v286
def k0_off7 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v288 : Index := Scalar.indexCast v287
  let c0_114 : Index := 0#32
  ![v288.toNat, 0]
def k0_off8 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v296 : Index := Scalar.indexCast v287
  let c64_118 : Index := 64#32
  ![v296.toNat, 64]
def k0_off9 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v304 : Index := Scalar.indexCast v287
  let c128_122 : Index := 128#32
  ![v304.toNat, 128]
def k0_off10 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v312 : Index := Scalar.indexCast v287
  let c192_126 : Index := 192#32
  ![v312.toNat, 192]
def k0_off11 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v320 : Index := Scalar.indexCast v287
  let c256_130 : Index := 256#32
  ![v320.toNat, 256]
def k0_off12 (i : grid0.Coords) (k0_t1 : Fin (k0_t1_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let c1_i32_110 : BitVec 32 := 1#32
  let arg8 : BitVec 32 := Scf.iv c0_i32 c1_i32_110 k0_t1
  let v285 : BitVec 32 := Scalar.subi v284 arg8
  let c256_i32_113 : BitVec 32 := 256#32
  let v286 : BitVec 32 := Scalar.muli v285 c256_i32_113
  let v287 : BitVec 32 := v286
  let v328 : Index := Scalar.indexCast v287
  let c320_134 : Index := 320#32
  ![v328.toNat, 320]
@[reducible] def k0_t2_loop (i : grid0.Coords) : Scf.Loop 32 :=
  let c0_i32 : BitVec 32 := 0#32
  let arg1 : BitVec 32 := BitVec.ofNat 32 (i 1).val
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let v278 : BitVec 32 := Scalar.addi c0_i32 v277
  let c1_i32_111 : BitVec 32 := 1#32
  ⟨v281, v278, c1_i32_111⟩
def k0_mult3 (i : grid0.Coords) (k0_t2 : Fin (k0_t2_loop i).trips) : BitVec 32 :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  v286
def k0_off13 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v288 : Index := Scalar.indexCast v287
  let c0_114 : Index := 0#32
  ![v288.toNat, 0]
def k0_off14 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v296 : Index := Scalar.indexCast v287
  let c64_118 : Index := 64#32
  ![v296.toNat, 64]
def k0_off15 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v304 : Index := Scalar.indexCast v287
  let c128_122 : Index := 128#32
  ![v304.toNat, 128]
def k0_off16 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v312 : Index := Scalar.indexCast v287
  let c192_126 : Index := 192#32
  ![v312.toNat, 192]
def k0_off17 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v320 : Index := Scalar.indexCast v287
  let c256_130 : Index := 256#32
  ![v320.toNat, 256]
def k0_off18 (i : grid0.Coords) (k0_t2 : Fin (k0_t2_loop i).trips) : Fin 2 → Nat :=
  let arg1 : BitVec 32 := BitVec.ofNat 32 (i 1).val
  let c1_i32_112 : BitVec 32 := 1#32
  let v284 : BitVec 32 := Scalar.subi arg1 c1_i32_112
  let c0_i32 : BitVec 32 := 0#32
  let v277 : BitVec 32 := Scalar.subi arg1 c0_i32
  let c1_i32 : BitVec 32 := 1#32
  let v279 : BitVec 32 := Scalar.divsi v277 c1_i32
  let v280 : BitVec 32 := Scalar.muli v279 c1_i32
  let v281 : BitVec 32 := Scalar.addi c0_i32 v280
  let c1_i32_111 : BitVec 32 := 1#32
  let arg8 : BitVec 32 := Scf.iv v281 c1_i32_111 k0_t2
  let v285 : BitVec 32 := Scalar.subi v284 arg8
  let c256_i32_113 : BitVec 32 := 256#32
  let v286 : BitVec 32 := Scalar.muli v285 c256_i32_113
  let v287 : BitVec 32 := v286
  let v328 : Index := Scalar.indexCast v287
  let c320_134 : Index := 320#32
  ![v328.toNat, 320]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2_e" => some (((Real.log 2)⁻¹ : ℝ) : EReal)
  | "neg_scale_log2_e" => some ((-((1 / 8) * (Real.log 2)⁻¹) : ℝ) : EReal)
  | _ => none
-- ==== ReferenceIdeal.lean ====
abbrev S16384x384 : Shape := ⟨2, ![16384, 384]⟩
abbrev S6 : Shape := ⟨1, ![6]⟩
abbrev S8x2048x6x64 : Shape := ⟨4, ![8, 2048, 6, 64]⟩
abbrev S8x6x2048x2048 : Shape := ⟨4, ![8, 6, 2048, 2048]⟩
abbrev S_ : Shape := ⟨0, ![]⟩
abbrev S1x6x1x1 : Shape := ⟨4, ![1, 6, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x6x64x2048 : Shape := ⟨4, ![8, 6, 64, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x384, .f32⟩
  | .hbm, ⟨2, _⟩ => ⟨S16384x384, .f32⟩
  | .hbm, ⟨3, _⟩ => ⟨S6, .f32⟩
  | .hbm, ⟨4, _⟩ => ⟨S8x2048x6x64, .f32⟩
  | .hbm, ⟨5, _⟩ => ⟨S8x2048x6x64, .f32⟩
  | .hbm, ⟨6, _⟩ => ⟨S8x2048x6x64, .f32⟩
  | .hbm, ⟨7, _⟩ => ⟨S8x6x2048x2048, .f32⟩
  | .hbm, ⟨8, _⟩ => ⟨S_, .f32⟩
  | .hbm, ⟨9, _⟩ => ⟨S8x6x2048x2048, .f32⟩
  | .hbm, ⟨10, _⟩ => ⟨S8x6x2048x2048, .f32⟩
  | .hbm, ⟨11, _⟩ => ⟨S1x6x1x1, .f32⟩
  | .hbm, ⟨12, _⟩ => ⟨S8x6x2048x2048, .f32⟩
  | .hbm, ⟨13, _⟩ => ⟨S8x6x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x6x2048x2048, .f32⟩
  | .hbm, ⟨22, _⟩ => ⟨S8x6x2048x2048, .f32⟩
  | .hbm, ⟨23, _⟩ => ⟨S_, .f32⟩
  | .hbm, ⟨24, _⟩ => ⟨S8x6x2048x2048, .f32⟩
  | .hbm, ⟨25, _⟩ => ⟨S8x6x2048x2048, .f32⟩
  | .hbm, ⟨26, _⟩ => ⟨S8x6x2048x2048, .f32⟩
  | .hbm, ⟨27, _⟩ => ⟨S8x6x2048x2048, .f32⟩
  | .hbm, ⟨28, _⟩ => ⟨S8x6x2048x2048, .i1⟩
  | .hbm, ⟨29, _⟩ => ⟨S8x6x2048x2048, .f32⟩
  | .hbm, ⟨30, _⟩ => ⟨S8x6x2048x2048, .f32⟩
  | .hbm, ⟨31, _⟩ => ⟨S8x6x2048x2048, .f32⟩
  | .hbm, ⟨32, _⟩ => ⟨S8x6x2048x2048, .f32⟩
  | .hbm, ⟨33, _⟩ => ⟨S8x6x2048x2048, .f32⟩
  | .hbm, ⟨34, _⟩ => ⟨S8x6x2048x2048, .f32⟩
  | .hbm, ⟨35, _⟩ => ⟨S8x6x2048x2048, .f32⟩
  | .hbm, ⟨36, _⟩ => ⟨S8x6x2048x2048, .f32⟩
  | .hbm, ⟨37, _⟩ => ⟨S8x6x2048x2048, .f32⟩
  | .hbm, ⟨38, _⟩ => ⟨S_, .f32⟩
  | .hbm, ⟨39, _⟩ => ⟨S_, .f32⟩
  | .hbm, ⟨40, _⟩ => ⟨S8x6x2048x2048, .i1⟩
  | .hbm, ⟨41, _⟩ => ⟨S8x6x2048x2048, .f32⟩
  | .hbm, ⟨42, _⟩ => ⟨S8x6x2048x2048, .f32⟩
  | .hbm, ⟨43, _⟩ => ⟨S_, .f32⟩
  | .hbm, ⟨44, _⟩ => ⟨S_, .f32⟩
  | .hbm, ⟨45, _⟩ => ⟨S8x6x2048x2048, .f32⟩
  | .hbm, ⟨46, _⟩ => ⟨S8x6x2048x2048, .f32⟩
  | .hbm, ⟨47, _⟩ => ⟨S8x6x2048x2048, .f32⟩
  | .hbm, ⟨48, _⟩ => ⟨S_, .f32⟩
  | .hbm, ⟨49, _⟩ => ⟨S8x6x2048x2048, .f32⟩
  | .hbm, ⟨50, _⟩ => ⟨S8x6x2048x2048, .f32⟩
  | .hbm, ⟨51, _⟩ => ⟨S8x6x2048x2048, .f32⟩
  | .hbm, ⟨52, _⟩ => ⟨S8x6x2048x2048, .f32⟩
  | .hbm, ⟨53, _⟩ => ⟨S8x6x2048x2048, .i1⟩
  | .hbm, ⟨54, _⟩ => ⟨S8x6x2048x2048, .f32⟩
  | .hbm, ⟨55, _⟩ => ⟨S8x6x2048x2048, .f32⟩
  | .hbm, ⟨56, _⟩ => ⟨S8x6x2048x2048, .f32⟩
  | .hbm, ⟨57, _⟩ => ⟨S8x6x2048x2048, .f32⟩
  | .hbm, ⟨58, _⟩ => ⟨S8x6x2048x2048, .f32⟩
  | .hbm, ⟨59, _⟩ => ⟨S8x6x2048x2048, .f32⟩
  | .hbm, ⟨60, _⟩ => ⟨S8x6x2048x2048, .f32⟩
  | .hbm, ⟨61, _⟩ => ⟨S8x6x2048x2048, .f32⟩
  | .hbm, ⟨62, _⟩ => ⟨S8x6x2048x2048, .f32⟩
  | .hbm, ⟨63, _⟩ => ⟨S8x6x2048x2048, .f32⟩
  | .hbm, ⟨64, _⟩ => ⟨S8x6x2048x2048, .f32⟩
  | .hbm, ⟨65, _⟩ => ⟨S_, .f32⟩
  | .hbm, ⟨66, _⟩ => ⟨S_, .f32⟩
  | .hbm, ⟨67, _⟩ => ⟨S8x6x2048x2048, .i1⟩
  | .hbm, ⟨68, _⟩ => ⟨S8x6x2048x2048, .f32⟩
  | .hbm, ⟨69, _⟩ => ⟨S8x6x2048x2048, .f32⟩
  | .hbm, ⟨70, _⟩ => ⟨S8x6x64x2048, .f32⟩
  | .hbm, ⟨71, _⟩ => ⟨S8x2048x6x64, .f32⟩
  | .hbm, ⟨72, _⟩ => ⟨S16384x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S3x1024 : Shape := ⟨2, ![3, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S3x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S3x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel2Ideal.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S3x1024 : Shape := ⟨2, ![3, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S3x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S3x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3328 : Shape := ⟨2, ![1024, 3328]⟩
abbrev S1x1024 : Shape := ⟨2, ![1, 1024]⟩
abbrev S16384x768 : Shape := ⟨2, ![16384, 768]⟩
abbrev S16384x1408 : Shape := ⟨2, ![16384, 1408]⟩
abbrev S16384x384 : Shape := ⟨2, ![16384, 384]⟩
abbrev S512x1024 : Shape := ⟨2, ![512, 1024]⟩
abbrev S512x768 : Shape := ⟨2, ![512, 768]⟩
abbrev S512x1408 : Shape := ⟨2, ![512, 1408]⟩
abbrev S512x384 : Shape := ⟨2, ![512, 384]⟩
abbrev S512 : Shape := ⟨1, ![512]⟩
abbrev S512x1 : Shape := ⟨2, ![512, 1]⟩
abbrev S1024x768 : Shape := ⟨2, ![1024, 768]⟩
abbrev S1024x1408 : Shape := ⟨2, ![1024, 1408]⟩
abbrev S1024x384 : Shape := ⟨2, ![1024, 384]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S1024x3328, .bf16⟩
  | .hbm, ⟨4, _⟩ => ⟨S1x1024, .f32⟩
  | .hbm, ⟨5, _⟩ => ⟨S16384x768, .f32⟩
  | .hbm, ⟨6, _⟩ => ⟨S16384x1408, .f32⟩
  | .hbm, ⟨7, _⟩ => ⟨S16384x384, .f32⟩
  | .hbm, ⟨8, _⟩ => ⟨S16384x384, .f32⟩
  | .hbm, ⟨9, _⟩ => ⟨S16384x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x768, .f32⟩
  | .local _ .vmem, ⟨5, _⟩ => ⟨S512x768, .f32⟩
  | .local _ .vmem, ⟨6, _⟩ => ⟨S512x1408, .f32⟩
  | .local _ .vmem, ⟨7, _⟩ => ⟨S512x1408, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
abbrev S16384x1024 : Shape := ⟨2, ![16384, 1024]⟩
abbrev S1024 : Shape := ⟨1, ![1024]⟩
abbrev S1024x3328 : Shape := ⟨2, ![1024, 3328]⟩
abbrev S1x1024 : Shape := ⟨2, ![1, 1024]⟩
abbrev S16384x768 : Shape := ⟨2, ![16384, 768]⟩
abbrev S16384x1408 : Shape := ⟨2, ![16384, 1408]⟩
abbrev S16384x384 : Shape := ⟨2, ![16384, 384]⟩
abbrev S512x1024 : Shape := ⟨2, ![512, 1024]⟩
abbrev S512x768 : Shape := ⟨2, ![512, 768]⟩
abbrev S512x1408 : Shape := ⟨2, ![512, 1408]⟩
abbrev S512x384 : Shape := ⟨2, ![512, 384]⟩
abbrev S512 : Shape := ⟨1, ![512]⟩
abbrev S512x1 : Shape := ⟨2, ![512, 1]⟩
abbrev S1024x768 : Shape := ⟨2, ![1024, 768]⟩
abbrev S1024x1408 : Shape := ⟨2, ![1024, 1408]⟩
abbrev S1024x384 : Shape := ⟨2, ![1024, 384]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S1024x3328, .bf16⟩
  | .hbm, ⟨4, _⟩ => ⟨S1x1024, .f32⟩
  | .hbm, ⟨5, _⟩ => ⟨S16384x768, .f32⟩
  | .hbm, ⟨6, _⟩ => ⟨S16384x1408, .f32⟩
  | .hbm, ⟨7, _⟩ => ⟨S16384x384, .f32⟩
  | .hbm, ⟨8, _⟩ => ⟨S16384x384, .f32⟩
  | .hbm, ⟨9, _⟩ => ⟨S16384x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x768, .f32⟩
  | .local _ .vmem, ⟨5, _⟩ => ⟨S512x768, .f32⟩
  | .local _ .vmem, ⟨6, _⟩ => ⟨S512x1408, .f32⟩
  | .local _ .vmem, ⟨7, _⟩ => ⟨S512x1408, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1024 : Shape := ⟨1, ![1024]⟩
abbrev S1024x3328 : Shape := ⟨2, ![1024, 3328]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3328 : Shape := ⟨2, ![16384, 3328]⟩
abbrev S16384x768 : Shape := ⟨2, ![16384, 768]⟩
abbrev S16384x1408 : Shape := ⟨2, ![16384, 1408]⟩
abbrev S16384x1152 : Shape := ⟨2, ![16384, 1152]⟩
abbrev S16384x384 : Shape := ⟨2, ![16384, 384]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3328, .f32⟩
  | .hbm, ⟨20, _⟩ => ⟨S16384x768, .f32⟩
  | .hbm, ⟨21, _⟩ => ⟨S16384x1408, .f32⟩
  | .hbm, ⟨22, _⟩ => ⟨S16384x1152, .f32⟩
  | .hbm, ⟨23, _⟩ => ⟨S16384x384, .f32⟩
  | .hbm, ⟨24, _⟩ => ⟨S16384x384, .f32⟩
  | .hbm, ⟨25, _⟩ => ⟨S16384x384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S16384x768 : Shape := ⟨2, ![16384, 768]⟩
abbrev S8x2x256 : Shape := ⟨3, ![8, 2, 256]⟩
abbrev S3x256 : Shape := ⟨2, ![3, 256]⟩
abbrev S16384x256 : Shape := ⟨2, ![16384, 256]⟩
abbrev S2048x768 : Shape := ⟨2, ![2048, 768]⟩
abbrev S1x2x256 : Shape := ⟨3, ![1, 2, 256]⟩
abbrev S2048x256 : Shape := ⟨2, ![2048, 256]⟩
abbrev S2x256 : Shape := ⟨2, ![2, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x768, .f32⟩
  | .hbm, ⟨1, _⟩ => ⟨S8x2x256, .f32⟩
  | .hbm, ⟨2, _⟩ => ⟨S3x256, .f32⟩
  | .hbm, ⟨3, _⟩ => ⟨S16384x256, .f32⟩
  | .hbm, ⟨4, _⟩ => ⟨S8x2x256, .f32⟩
  | .local _ .vmem, ⟨0, _⟩ => ⟨S2048x768, .f32⟩
  | .local _ .vmem, ⟨1, _⟩ => ⟨S2048x768, .f32⟩
  | .local _ .vmem, ⟨2, _⟩ => ⟨S1x2x256, .f32⟩
  | .local _ .vmem, ⟨3, _⟩ => ⟨S1x2x256, .f32⟩
  | .local _ .vmem, ⟨4, _⟩ => ⟨S3x256, .f32⟩
  | .local _ .vmem, ⟨5, _⟩ => ⟨S2048x256, .f32⟩
  | .local _ .vmem, ⟨6, _⟩ => ⟨S2048x256, .f32⟩
  | .local _ .vmem, ⟨7, _⟩ => ⟨S1x2x256, .f32⟩
  | .local _ .vmem, ⟨8, _⟩ => ⟨S1x2x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x768 : Shape := ⟨2, ![16384, 768]⟩
abbrev S8x2x256 : Shape := ⟨3, ![8, 2, 256]⟩
abbrev S3x256 : Shape := ⟨2, ![3, 256]⟩
abbrev S8x2048x768 : Shape := ⟨3, ![8, 2048, 768]⟩
abbrev S8x2048x256 : Shape := ⟨3, ![8, 2048, 256]⟩
abbrev S8x2050x256 : Shape := ⟨3, ![8, 2050, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S16384x256 : Shape := ⟨2, ![16384, 256]⟩

abbrev nBuf : Space → Nat
  | .hbm => 35
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S8x2x256, .f32⟩
  | .hbm, ⟨2, _⟩ => ⟨S3x256, .f32⟩
  | .hbm, ⟨3, _⟩ => ⟨S8x2048x768, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x256, .f32⟩
  | .hbm, ⟨8, _⟩ => ⟨S8x2050x256, .f32⟩
  | .hbm, ⟨9, _⟩ => ⟨S1x256, .f32⟩
  | .hbm, ⟨10, _⟩ => ⟨S256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S_, .f32⟩
  | .hbm, ⟨16, _⟩ => ⟨S8x2048x256, .f32⟩
  | .hbm, ⟨17, _⟩ => ⟨S8x2048x256, .f32⟩
  | .hbm, ⟨18, _⟩ => ⟨S1x256, .f32⟩
  | .hbm, ⟨19, _⟩ => ⟨S256, .f32⟩
  | .hbm, ⟨20, _⟩ => ⟨S8x2048x256, .f32⟩
  | .hbm, ⟨21, _⟩ => ⟨S1x1x256, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S1x256, .f32⟩
  | .hbm, ⟨26, _⟩ => ⟨S256, .f32⟩
  | .hbm, ⟨27, _⟩ => ⟨S8x2048x256, .f32⟩
  | .hbm, ⟨28, _⟩ => ⟨S1x1x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S8x2048x256, .f32⟩
  | .hbm, ⟨33, _⟩ => ⟨S8x2x256, .f32⟩
  | .hbm, ⟨34, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel5.lean ====
abbrev S512x768 : Shape := ⟨2, ![512, 768]⟩
abbrev S128x2x256 : Shape := ⟨3, ![128, 2, 256]⟩
abbrev S3x256 : Shape := ⟨2, ![3, 256]⟩
abbrev S2x128x256 : Shape := ⟨3, ![2, 128, 256]⟩
abbrev S512x256 : Shape := ⟨2, ![512, 256]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 6
  | .vmem => 5
  | .smem => 0
  | _ => 0

abbrev bufTy : (tb : Table) → Fin (tcTables nBuf tb) → BufTy
  | .hbm, ⟨0, _⟩ => ⟨S512x768, .f32⟩
  | .hbm, ⟨1, _⟩ => ⟨S128x2x256, .f32⟩
  | .hbm, ⟨2, _⟩ => ⟨S3x256, .f32⟩
  | .hbm, ⟨3, _⟩ => ⟨S2x128x256, .f32⟩
  | .hbm, ⟨4, _⟩ => ⟨S512x256, .f32⟩
  | .hbm, ⟨5, _⟩ => ⟨S2x128x256, .f32⟩
  | .local _ .vmem, ⟨0, _⟩ => ⟨S512x768, .f32⟩
  | .local _ .vmem, ⟨1, _⟩ => ⟨S2x128x256, .f32⟩
  | .local _ .vmem, ⟨2, _⟩ => ⟨S3x256, .f32⟩
  | .local _ .vmem, ⟨3, _⟩ => ⟨S512x256, .f32⟩
  | .local _ .vmem, ⟨4, _⟩ => ⟨S2x128x256, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference5Ideal.lean ====
abbrev S512x768 : Shape := ⟨2, ![512, 768]⟩
abbrev S128x2x256 : Shape := ⟨3, ![128, 2, 256]⟩
abbrev S3x256 : Shape := ⟨2, ![3, 256]⟩
abbrev S4x128x768 : Shape := ⟨3, ![4, 128, 768]⟩
abbrev S128x4x768 : Shape := ⟨3, ![128, 4, 768]⟩
abbrev S128x4x256 : Shape := ⟨3, ![128, 4, 256]⟩
abbrev S128x6x256 : Shape := ⟨3, ![128, 6, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S4x128x256 : Shape := ⟨3, ![4, 128, 256]⟩
abbrev S512x256 : Shape := ⟨2, ![512, 256]⟩
abbrev S2x128x256 : Shape := ⟨3, ![2, 128, 256]⟩

abbrev nBuf : Space → Nat
  | .hbm => 38
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S128x2x256, .f32⟩
  | .hbm, ⟨2, _⟩ => ⟨S3x256, .f32⟩
  | .hbm, ⟨3, _⟩ => ⟨S4x128x768, .f32⟩
  | .hbm, ⟨4, _⟩ => ⟨S128x4x768, .f32⟩
  | .hbm, ⟨5, _⟩ => ⟨S128x4x256, .f32⟩
  | .hbm, ⟨6, _⟩ => ⟨S128x4x256, .f32⟩
  | .hbm, ⟨7, _⟩ => ⟨S128x4x256, .f32⟩
  | .hbm, ⟨8, _⟩ => ⟨S128x4x256, .f32⟩
  | .hbm, ⟨9, _⟩ => ⟨S128x6x256, .f32⟩
  | .hbm, ⟨10, _⟩ => ⟨S1x256, .f32⟩
  | .hbm, ⟨11, _⟩ => ⟨S256, .f32⟩
  | .hbm, ⟨12, _⟩ => ⟨S128x4x256, .f32⟩
  | .hbm, ⟨13, _⟩ => ⟨S1x1x256, .f32⟩
  | .hbm, ⟨14, _⟩ => ⟨S128x4x256, .f32⟩
  | .hbm, ⟨15, _⟩ => ⟨S128x4x256, .f32⟩
  | .hbm, ⟨16, _⟩ => ⟨S_, .f32⟩
  | .hbm, ⟨17, _⟩ => ⟨S128x4x256, .f32⟩
  | .hbm, ⟨18, _⟩ => ⟨S128x4x256, .f32⟩
  | .hbm, ⟨19, _⟩ => ⟨S1x256, .f32⟩
  | .hbm, ⟨20, _⟩ => ⟨S256, .f32⟩
  | .hbm, ⟨21, _⟩ => ⟨S128x4x256, .f32⟩
  | .hbm, ⟨22, _⟩ => ⟨S1x1x256, .f32⟩
  | .hbm, ⟨23, _⟩ => ⟨S128x4x256, .f32⟩
  | .hbm, ⟨24, _⟩ => ⟨S128x4x256, .f32⟩
  | .hbm, ⟨25, _⟩ => ⟨S128x4x256, .f32⟩
  | .hbm, ⟨26, _⟩ => ⟨S1x256, .f32⟩
  | .hbm, ⟨27, _⟩ => ⟨S256, .f32⟩
  | .hbm, ⟨28, _⟩ => ⟨S128x4x256, .f32⟩
  | .hbm, ⟨29, _⟩ => ⟨S1x1x256, .f32⟩
  | .hbm, ⟨30, _⟩ => ⟨S128x4x256, .f32⟩
  | .hbm, ⟨31, _⟩ => ⟨S128x4x256, .f32⟩
  | .hbm, ⟨32, _⟩ => ⟨S128x4x256, .f32⟩
  | .hbm, ⟨33, _⟩ => ⟨S128x4x256, .f32⟩
  | .hbm, ⟨34, _⟩ => ⟨S128x2x256, .f32⟩
  | .hbm, ⟨35, _⟩ => ⟨S4x128x256, .f32⟩
  | .hbm, ⟨36, _⟩ => ⟨S512x256, .f32⟩
  | .hbm, ⟨37, _⟩ => ⟨S2x128x256, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Kernel6.lean ====
abbrev S512x1024 : Shape := ⟨2, ![512, 1024]⟩
abbrev S1024 : Shape := ⟨1, ![1024]⟩
abbrev S1024x3328 : Shape := ⟨2, ![1024, 3328]⟩
abbrev S1x1024 : Shape := ⟨2, ![1, 1024]⟩
abbrev S512x768 : Shape := ⟨2, ![512, 768]⟩
abbrev S512x1408 : Shape := ⟨2, ![512, 1408]⟩
abbrev S512x384 : Shape := ⟨2, ![512, 384]⟩
abbrev S512 : Shape := ⟨1, ![512]⟩
abbrev S512x1 : Shape := ⟨2, ![512, 1]⟩
abbrev S1024x768 : Shape := ⟨2, ![1024, 768]⟩
abbrev S1024x1408 : Shape := ⟨2, ![1024, 1408]⟩
abbrev S1024x384 : Shape := ⟨2, ![1024, 384]⟩

abbrev nBuf : Space → Nat
  | .hbm => 10
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3328, .f32⟩
  | .hbm, ⟨3, _⟩ => ⟨S1024x3328, .bf16⟩
  | .hbm, ⟨4, _⟩ => ⟨S1x1024, .f32⟩
  | .hbm, ⟨5, _⟩ => ⟨S512x768, .f32⟩
  | .hbm, ⟨6, _⟩ => ⟨S512x1408, .f32⟩
  | .hbm, ⟨7, _⟩ => ⟨S512x384, .f32⟩
  | .hbm, ⟨8, _⟩ => ⟨S512x384, .f32⟩
  | .hbm, ⟨9, _⟩ => ⟨S512x384, .f32⟩
  | .local _ .vmem, ⟨0, _⟩ => ⟨S512x1024, .f32⟩
  | .local _ .vmem, ⟨1, _⟩ => ⟨S1x1024, .f32⟩
  | .local _ .vmem, ⟨2, _⟩ => ⟨S1024x3328, .bf16⟩
  | .local _ .vmem, ⟨3, _⟩ => ⟨S512x768, .f32⟩
  | .local _ .vmem, ⟨4, _⟩ => ⟨S512x1408, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S512x1024 : Shape := ⟨2, ![512, 1024]⟩
abbrev S1024 : Shape := ⟨1, ![1024]⟩
abbrev S1024x3328 : Shape := ⟨2, ![1024, 3328]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3328 : Shape := ⟨2, ![512, 3328]⟩
abbrev S512x768 : Shape := ⟨2, ![512, 768]⟩
abbrev S512x1408 : Shape := ⟨2, ![512, 1408]⟩
abbrev S512x1152 : Shape := ⟨2, ![512, 1152]⟩
abbrev S512x384 : Shape := ⟨2, ![512, 384]⟩

abbrev nBuf : Space → Nat
  | .hbm => 26
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3328, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x3328, .f32⟩
  | .hbm, ⟨20, _⟩ => ⟨S512x768, .f32⟩
  | .hbm, ⟨21, _⟩ => ⟨S512x1408, .f32⟩
  | .hbm, ⟨22, _⟩ => ⟨S512x1152, .f32⟩
  | .hbm, ⟨23, _⟩ => ⟨S512x384, .f32⟩
  | .hbm, ⟨24, _⟩ => ⟨S512x384, .f32⟩
  | .hbm, ⟨25, _⟩ => ⟨S512x384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S512x1024 : Shape := ⟨2, ![512, 1024]⟩
abbrev S512x256 : Shape := ⟨2, ![512, 256]⟩
abbrev S512x384 : Shape := ⟨2, ![512, 384]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S3x1024 : Shape := ⟨2, ![3, 1024]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S512x384, .f32⟩
  | .hbm, ⟨3, _⟩ => ⟨S512x384, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S3x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S512x1024, .f32⟩
  | .local _ .vmem, ⟨0, _⟩ => ⟨S512x1024, .f32⟩
  | .local _ .vmem, ⟨1, _⟩ => ⟨S512x256, .f32⟩
  | .local _ .vmem, ⟨2, _⟩ => ⟨S512x384, .f32⟩
  | .local _ .vmem, ⟨3, _⟩ => ⟨S512x384, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S3x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference7Ideal.lean ====
abbrev S512x1024 : Shape := ⟨2, ![512, 1024]⟩
abbrev S512x256 : Shape := ⟨2, ![512, 256]⟩
abbrev S512x384 : Shape := ⟨2, ![512, 384]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4096 : Shape := ⟨2, ![512, 4096]⟩

abbrev nBuf : Space → Nat
  | .hbm => 68
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S512x384, .f32⟩
  | .hbm, ⟨3, _⟩ => ⟨S512x384, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1024, .f32⟩
  | .hbm, ⟨41, _⟩ => ⟨S512x1024, .f32⟩
  | .hbm, ⟨42, _⟩ => ⟨S1x1024, .f32⟩
  | .hbm, ⟨43, _⟩ => ⟨S512x1024, .f32⟩
  | .hbm, ⟨44, _⟩ => ⟨S512x1024, .f32⟩
  | .hbm, ⟨45, _⟩ => ⟨S512x4096, .f32⟩
  | .hbm, ⟨46, _⟩ => ⟨S_, .f32⟩
  | .hbm, ⟨47, _⟩ => ⟨S512x4096, .f32⟩
  | .hbm, ⟨48, _⟩ => ⟨S512x4096, .f32⟩
  | .hbm, ⟨49, _⟩ => ⟨S512x4096, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S_, .f32⟩
  | .hbm, ⟨59, _⟩ => ⟨S512x1, .f32⟩
  | .hbm, ⟨60, _⟩ => ⟨S512x1, .f32⟩
  | .hbm, ⟨61, _⟩ => ⟨S512x1, .f32⟩
  | .hbm, ⟨62, _⟩ => ⟨S512x1024, .f32⟩
  | .hbm, ⟨63, _⟩ => ⟨S512x1024, .f32⟩
  | .hbm, ⟨64, _⟩ => ⟨S1x1024, .f32⟩
  | .hbm, ⟨65, _⟩ => ⟨S512x1024, .f32⟩
  | .hbm, ⟨66, _⟩ => ⟨S512x1024, .f32⟩
  | .hbm, ⟨67, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

/-! # The frame of the attention's kernel as printed: it ends, keeps its arguments and leaves every counter at zero.
    Nothing is said here of what it computes. -/

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers that the pipeline hands to the body at a point -/

abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x384 .f32 := win0_5.stage (cfg0.slots t 5)
abbrev hs0_5 (t : Fin cfg0.N) : (ms0_5 t).IsWhole := hstage0_5 ((cfg0.slots t 5).cast nbuf0_5)

set_option maxHeartbeats 1000000 in
/-- One run of the body on any whole buffers: the inputs are handed back as they were, the output at some contents. -/
theorem body_run (c : Dev nD) (i : grid0.Coords) (arg2 : Memref sig .tc .smem S6 .f32) (harg2 : arg2.IsWhole) (arg3 : Memref sig .tc .vmem S256x384 .f32) (harg3 : arg3.IsWhole) (arg4 : Memref sig .tc .vmem S2048x384 .f32) (harg4 : arg4.IsWhole) (arg5 : Memref sig .tc .vmem S2048x384 .f32) (harg5 : arg5.IsWhole) (arg6 : Memref sig .tc .vmem S256x256 .bf16) (harg6 : arg6.IsWhole) (arg7 : Memref sig .tc .vmem S256x384 .f32) (harg7 : arg7.IsWhole)
    (x0 : Vec F S6 .f32) (x1 : Vec F S256x384 .f32) (x2 : Vec F S2048x384 .f32) (x3 : Vec F S2048x384 .f32) (x4 : Vec F S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)) -∗ K ⟨⟩))
          ⊢ wp frame (wpE (defs₀ (F := F)) Variants.none c none) E (cc0_sb_prompt i arg2 harg2 arg3 harg3 arg4 harg4 arg5 harg5 arg6 harg6 arg7 harg7) K := by
    intro E K
    simp only [cc0_sb_prompt_eq_skeleton]; unfold cc0_sb_prompt_skel
    simp only [k0_part19_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _, _; isplitr; swap; · iexact H5
    ipureintro; rfl

/-- Only the output window is left unnamed: the frame says nothing of it. -/
def forgets0 : Fin 6 → Bool := fun w => w.val == 5

/-- The pipeline's proof data: the arrays as the region finds them, the input windows at their blocks after every point, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays of the proof data are those at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body finds at point `t`: the invariant, and its windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- What it leaves: the inputs as they were, the output at some contents. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

/-- The body at any point takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body that the pipeline calls at point `t` is the kernel's at that point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program ends, with every array that is only read unchanged and all counters at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The four arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 1 rfl).trans ((A_eq m c 1).trans (V_main_arg0 m c)),
      (Pipeline.RDat.FramePost.arr_in h c 2 rfl).trans ((A_eq m c 2).trans (V_main_arg1 m c)),
      (Pipeline.RDat.FramePost.arr_in h c 3 rfl).trans ((A_eq m c 3).trans (V_main_arg2 m c)),
      (Pipeline.RDat.FramePost.arr_in h c 0 rfl).trans ((A_eq m c 0).trans (V_main_arg3 m c))⟩) (run_main m ρ)

/-- The frame of the attention's kernel, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Attn

end
-- ==== Proof.Frames.lean ====
module

public import proofs.«01_k».proof.Defs
public import Idealize.ShloMosaic.Adequacy
public import Idealize.ShloMosaic.Init
public import Idealize.ShloMosaic.Lib.Claim
public import proofs.«01_k».proof.Proof.Gen.ReferenceIdeal
public import proofs.«01_k».proof.Proof.Gen.Reference2Ideal
public import proofs.«01_k».proof.Proof.Gen.Reference3Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal
public import proofs.«01_k».proof.Proof.Gen.Reference5Ideal
public import proofs.«01_k».proof.Proof.Gen.Reference4Ideal.Run
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run

@[expose] public section

noncomputable section

namespace Cert.Proof

open Idealize.ShloMosaic Idealize.ShloMosaic.TcCoe Idealize.SL.Sem

/-- The side conditions of the precondition's own operations. -/
theorem finite_facts : Cert.Pre_finite.Facts :=
  ⟨by decide, by decide, by decide, by decide, by decide⟩

/-- The attention's reference ends, keeps its arguments and leaves every counter at zero. -/
theorem frame_ri : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run m ρ)

/-- The same of the reference of the output projection and the feed-forward part. -/
theorem frame_r2i : Cert.quiescent_Reference2Ideal :=
  fun m ρ _ => (θ_run Cert.Reference2Ideal.defs _ _).mono
    (fun r h => ⟨fun c => (h c).2, sem_eq_zero_of_no_sems (by decide) r.2⟩) (Cert.Reference2Ideal.Value.run m ρ)

/-- The same of the input projection's reference. -/
theorem frame_r3i : Cert.quiescent_Reference3Ideal :=
  fun m ρ _ => (θ_run Cert.Reference3Ideal.defs _ _).mono
    (fun r h => ⟨fun c => (h c).2.2.2.2.2, sem_eq_zero_of_no_sems (by decide) r.2⟩) (Cert.Reference3Ideal.Value.run m ρ)

/-- The same of the reference of the short convolution of the prompt. -/
theorem frame_r4i : Cert.quiescent_Reference4Ideal :=
  fun m ρ _ => (θ_run Cert.Reference4Ideal.defs _ _).mono
    (fun r h => ⟨fun c => (h c).2.2, sem_eq_zero_of_no_sems (by decide) r.2⟩) (Cert.Reference4Ideal.Value.run m ρ)

/-- The same of the reference of the short convolution of the sample batch. -/
theorem frame_r5i : Cert.quiescent_Reference5Ideal :=
  fun m ρ _ => (θ_run Cert.Reference5Ideal.defs _ _).mono
    (fun r h => ⟨fun c => (h c).2.2, sem_eq_zero_of_no_sems (by decide) r.2⟩) (Cert.Reference5Ideal.Value.run m ρ)

/-- The same of the input projection's reference, for the sample batch. -/
theorem frame_r6i : Cert.quiescent_Reference6Ideal :=
  fun m ρ _ => (θ_run Cert.Reference6Ideal.defs _ _).mono
    (fun r h => ⟨fun c => (h c).2.2.2.2.2, sem_eq_zero_of_no_sems (by decide) r.2⟩) (Cert.Reference6Ideal.Value.run m ρ)

/-- The same of the reference of the output projection and the feed-forward part, for the sample batch. -/
theorem frame_r7i : Cert.quiescent_Reference7Ideal :=
  fun m ρ _ => (θ_run Cert.Reference7Ideal.defs _ _).mono
    (fun r h => ⟨fun c => (h c).2, sem_eq_zero_of_no_sems (by decide) r.2⟩) (Cert.Reference7Ideal.Value.run m ρ)

end Cert.Proof

end
-- ==== Proof.AttnModel.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

local notation "𝕄" => MT nD τ sig Unit (Elt Ideal) ℕ (UR sig nD τ) ℕ

/-! # The stick-breaking attention's block, written with sums -/

/-- The factor on the queries: minus the scale 1/8, in base-2 logarithms. -/
def κq : Ideal .f32 := Named.named κ "neg_scale_log2_e" 0xBE38AA3B#32

/-- The change of base from natural to base-2 logarithms. -/
def κl : Ideal .f32 := Named.named κ "log2_e" 0x3FB8AA3B#32

/-- The six heads' columns of an array of 384: head `h`'s 64 columns of the block of queries. -/
def qs (x : Vec Ideal S256x384 .f32) (h : Fin 6) : Vec Ideal S256x64 .f32 :=
  fun j => x (ix2 (j 0) ⟨64 * h.val + (j 1).val, by have := h.isLt; have : (j 1).val < 64 := (j 1).isLt; omega⟩)

/-- Rows `256 * t …` of a batch's keys (or values), head `h`'s columns. -/
def ks (x : Vec Ideal S2048x384 .f32) (t : Fin 8) (h : Fin 6) : Vec Ideal S256x64 .f32 :=
  fun j => x (ix2 ⟨256 * t.val + (j 0).val, by have := t.isLt; have : (j 0).val < 256 := (j 0).isLt; omega⟩
    ⟨64 * h.val + (j 1).val, by have := h.isLt; have : (j 1).val < 64 := (j 1).isLt; omega⟩)

/-- Minus the scores of a tile, in base 2. -/
def nB (q kt : Vec Ideal S256x64 .f32) (b : Ideal .f32) : Vec Ideal S256x256 .f32 :=
  fun j => (∑ x : Fin 64, q (ix2 (j 0) x) * κq * kt (ix2 (j 1) x)) - b * κl

/-- The base-2 logarithm of one minus the break fraction, from minus the score. -/
def lm (n : Ideal .f32) : Ideal .f32 :=
  min n 0 - Ideal.log (1 + FloatOps.exp2 (0 - FloatOps.absf n)) * κl

/-- On the diagonal tile: only the columns before the row. -/
def below (r c : Fin 256) (x : Ideal .f32) : Ideal .f32 :=
  Scalar.select (IntOp.cmpi CmpIPredicate.slt (BitVec.ofNat 32 c.val) (BitVec.ofNat 32 r.val)) x 0

/-- The carry after a tile to the left of the diagonal. -/
def carryStep (n : Vec Ideal S256x256 .f32) (a : Vec Ideal S256x1 .f32) : Vec Ideal S256x1 .f32 :=
  fun j => a j + ∑ x : Fin 256, lm (n (ix2 (j 0) x))

/-- What a tile to the left of the diagonal adds to the output. -/
def contrib (n : Vec Ideal S256x256 .f32) (M : Vec Ideal S256x256 .bf16) (a : Vec Ideal S256x1 .f32)
    (vt : Vec Ideal S256x64 .f32) : Vec Ideal S256x64 .f32 :=
  fun j => ∑ x : Fin 256,
    FloatOps.exp2 (lm (n (ix2 (j 0) x)) - n (ix2 (j 0) x)
      + (∑ e : Fin 256, lm (n (ix2 (j 0) e)) * M (ix2 e x)) + a (ix2 (j 0) 0)) * vt (ix2 x (j 1))

/-- The carry after the diagonal tile. -/
def carryDiag (n : Vec Ideal S256x256 .f32) : Vec Ideal S256x1 .f32 :=
  fun j => 0 + ∑ x : Fin 256, below (j 0) x (lm (n (ix2 (j 0) x)))

/-- What the diagonal tile stores. -/
def diag (n : Vec Ideal S256x256 .f32) (M : Vec Ideal S256x256 .bf16)
    (vt : Vec Ideal S256x64 .f32) : Vec Ideal S256x64 .f32 :=
  fun j => ∑ x : Fin 256,
    below (j 0) x (FloatOps.exp2 (lm (n (ix2 (j 0) x)) - n (ix2 (j 0) x)
      + (∑ e : Fin 256, below (j 0) e (lm (n (ix2 (j 0) e))) * M (ix2 e x)) + 0)) * vt (ix2 x (j 1))

/-- Six heads' columns side by side. -/
def wide (D : Fin 6 → Vec Ideal S256x64 .f32) : Vec Ideal S256x384 .f32 :=
  fun j => D ⟨(j 1).val / 64, by have : (j 1).val < 384 := (j 1).isLt; omega⟩
    (ix2 (j 0) ⟨(j 1).val % 64, by omega⟩)

/-- The six heads' carries as the loop holds them. -/
def tup (C : Fin 6 → Vec Ideal S256x1 .f32) :
    Vec Ideal S256x1 .f32 × Vec Ideal S256x1 .f32 × Vec Ideal S256x1 .f32 × Vec Ideal S256x1 .f32
      × Vec Ideal S256x1 .f32 × Vec Ideal S256x1 .f32 :=
  (C 0, C 1, C 2, C 3, C 4, C 5)

/-- The query tile of a grid point. -/
def qi (i : grid0.Coords) : Fin 8 := ⟨(i 1).val, (i 1).isLt⟩

/-- The tile which trip `k` of the loop at query tile `i` works on, counted down from the diagonal. -/
def back (i : Fin 8) (k : ℕ) : Fin 8 := ⟨i.val - 1 - k, by omega⟩

section
variable (x0 : Vec Ideal S6 .f32) (x1 : Vec Ideal S256x384 .f32) (x2 x3 : Vec Ideal S2048x384 .f32)
  (x4 : Vec Ideal S256x256 .bf16)

/-- Minus the scores of head `h` of a block of queries against tile `t`. -/
def nT (t : Fin 8) (h : Fin 6) : Vec Ideal S256x256 .f32 := nB (qs x1 h) (ks x2 t h) (x0 (ix1 h))

/-- The carries after the diagonal tile and `k` tiles to its left. -/
def carries (i : Fin 8) : ℕ → Fin 6 → Vec Ideal S256x1 .f32
  | 0, h => carryDiag (nT x0 x1 x2 i h)
  | k + 1, h => carryStep (nT x0 x1 x2 (back i k) h) (carries i k h)

/-- The output block after the diagonal tile and `k` tiles to its left. -/
def outs (i : Fin 8) : ℕ → Vec Ideal S256x384 .f32
  | 0 => wide fun h => diag (nT x0 x1 x2 i h) x4 (ks x3 i h)
  | k + 1 => fun j => outs i k j
      + wide (fun h => contrib (nT x0 x1 x2 (back i k) h) x4 (carries x0 x1 x2 i k h) (ks x3 (back i k) h)) j
end

end Cert.KernelIdeal.Attn

end
-- ==== Proof.AttnTrip.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit
public import Idealize.ShloMosaic.Lib.Pointwise
public import proofs.«01_k».proof.Proof.AttnModel

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

local notation "𝕄" => MT nD τ sig Unit (Elt Ideal) ℕ (UR sig nD τ) ℕ

theorem wide_eq (D : Fin 6 → Vec Ideal S256x64 .f32) (h : Fin 6) (y : S256x384.Idx) (x : S256x64.Idx)
    (h0 : (y 0).val = (x 0).val) (h1 : (y 1).val = 64 * h.val + (x 1).val) : wide D y = D h x := by
  have hx : (x 1).val < 64 := (x 1).isLt
  have e1 : (⟨(y 1).val / 64, by have : (y 1).val < 384 := (y 1).isLt; omega⟩ : Fin 6) = h := Fin.ext (by simp only; omega)
  have e2 : (ix2 (y 0) ⟨(y 1).val % 64, by omega⟩ : S256x64.Idx) = x := by
    funext a
    fin_cases a
    · exact Fin.ext h0
    · exact Fin.ext (by simp; omega)
  unfold wide
  rw [e1, e2]

theorem at_eq (o : Vec Ideal S256x384 .f32) (off : ℕ) (hb : ∀ a, (![0, off] : Fin 2 → ℕ) a + ![256, 64] a ≤ S256x384.size a)
    (y : S256x384.Idx) (x : S256x64.Idx)
    (h0 : (y 0).val = (x 0).val) (h1 : (y 1).val = off + (x 1).val) :
    o y = View.ld o (Rect.unit ![0, off] ![256, 64] hb) x := by
  pointwise
  congr 1
  funext a
  fin_cases a <;> apply Fin.ext <;> simp_all

theorem off7_eq : ∀ (i : grid0.Coords) (k : Fin (k0_t1_loop i).trips),
    k0_off7 i k = ![256 * ((i 1).val - 1 - k.val), 0] := by decide +kernel

theorem ld_off7 (x : Vec Ideal S2048x384 .f32) (i : grid0.Coords) (k : Fin (k0_t1_loop i).trips) (hb) :
    View.ld x (Rect.unit (k0_off7 i k) ![256, 64] hb) = ks x (back (qi i) k.val) 0 := by
  funext j
  pointwise [ks, back]
  simp only [off7_eq]
  simp [qi]

theorem off8_eq : ∀ (i : grid0.Coords) (k : Fin (k0_t1_loop i).trips),
    k0_off8 i k = ![256 * ((i 1).val - 1 - k.val), 64] := by decide +kernel

theorem ld_off8 (x : Vec Ideal S2048x384 .f32) (i : grid0.Coords) (k : Fin (k0_t1_loop i).trips) (hb) :
    View.ld x (Rect.unit (k0_off8 i k) ![256, 64] hb) = ks x (back (qi i) k.val) 1 := by
  funext j
  pointwise [ks, back]
  simp only [off8_eq]
  rfl

theorem off9_eq : ∀ (i : grid0.Coords) (k : Fin (k0_t1_loop i).trips),
    k0_off9 i k = ![256 * ((i 1).val - 1 - k.val), 128] := by decide +kernel

theorem ld_off9 (x : Vec Ideal S2048x384 .f32) (i : grid0.Coords) (k : Fin (k0_t1_loop i).trips) (hb) :
    View.ld x (Rect.unit (k0_off9 i k) ![256, 64] hb) = ks x (back (qi i) k.val) 2 := by
  funext j
  pointwise [ks, back]
  simp only [off9_eq]
  rfl

theorem off10_eq : ∀ (i : grid0.Coords) (k : Fin (k0_t1_loop i).trips),
    k0_off10 i k = ![256 * ((i 1).val - 1 - k.val), 192] := by decide +kernel

theorem ld_off10 (x : Vec Ideal S2048x384 .f32) (i : grid0.Coords) (k : Fin (k0_t1_loop i).trips) (hb) :
    View.ld x (Rect.unit (k0_off10 i k) ![256, 64] hb) = ks x (back (qi i) k.val) 3 := by
  funext j
  pointwise [ks, back]
  simp only [off10_eq]
  rfl

theorem off11_eq : ∀ (i : grid0.Coords) (k : Fin (k0_t1_loop i).trips),
    k0_off11 i k = ![256 * ((i 1).val - 1 - k.val), 256] := by decide +kernel

theorem ld_off11 (x : Vec Ideal S2048x384 .f32) (i : grid0.Coords) (k : Fin (k0_t1_loop i).trips) (hb) :
    View.ld x (Rect.unit (k0_off11 i k) ![256, 64] hb) = ks x (back (qi i) k.val) 4 := by
  funext j
  pointwise [ks, back]
  simp only [off11_eq]
  rfl

theorem off12_eq : ∀ (i : grid0.Coords) (k : Fin (k0_t1_loop i).trips),
    k0_off12 i k = ![256 * ((i 1).val - 1 - k.val), 320] := by decide +kernel

theorem ld_off12 (x : Vec Ideal S2048x384 .f32) (i : grid0.Coords) (k : Fin (k0_t1_loop i).trips) (hb) :
    View.ld x (Rect.unit (k0_off12 i k) ![256, 64] hb) = ks x (back (qi i) k.val) 5 := by
  funext j
  pointwise [ks, back]
  simp only [off12_eq]
  rfl

set_option maxHeartbeats 2000000 in
theorem tripR_eq (𝒱 : Variants) (c : Dev nD) (bd : Option 𝒱.V) (i : grid0.Coords) (arg2 : Memref sig .tc .smem S6 .f32) (harg2 : arg2.IsWhole)
    (arg3 : Memref sig .tc .vmem S256x384 .f32) (harg3 : arg3.IsWhole)
    (arg4 : Memref sig .tc .vmem S2048x384 .f32) (harg4 : arg4.IsWhole)
    (arg5 : Memref sig .tc .vmem S2048x384 .f32) (harg5 : arg5.IsWhole)
    (arg6 : Memref sig .tc .vmem S256x256 .bf16) (harg6 : arg6.IsWhole)
    (arg7 : Memref sig .tc .vmem S256x384 .f32) (harg7 : arg7.IsWhole)
    (arg1 : BitVec 32) (c0 : BitVec 32)
    (x0 : Vec Ideal S6 .f32) (x1 : Vec Ideal S256x384 .f32) (x2 x3 : Vec Ideal S2048x384 .f32) (x4 : Vec Ideal S256x256 .bf16)
    (k : Fin (k0_t1_loop i).trips) (C) (f) :
    tripR_k0_t1 𝒱 c bd i arg2 harg2 arg3 harg3 arg4 harg4 arg5 harg5 arg6 harg6 arg7 harg7 arg1 (k0_pay85 x4) (k0_pay86 (qs x1 0)) (k0_pay87 (qs x1 1)) (k0_pay88 (qs x1 2)) (k0_pay89 (qs x1 3)) (k0_pay90 (qs x1 4)) (k0_pay91 (qs x1 5)) c0
      (harg2.unread x0) (harg4.unread x2) (harg5.unread x3) k (tup C) f
      = tup fun h => carryStep (nT x0 x1 x2 (back (qi i) k.val) h) (C h) := by
  unfold tripR_k0_t1 trip_k0_t1
  frame_out
  simp only [ld_off7, ld_off8, ld_off9, ld_off10, ld_off11, ld_off12, tup]
  refine Prod.ext ?_ (Prod.ext ?_ (Prod.ext ?_ (Prod.ext ?_ (Prod.ext ?_ ?_))))
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · funext j
    pointwise [carryStep, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]

set_option maxHeartbeats 2000000 in
theorem tripL_eq (𝒱 : Variants) (c : Dev nD) (bd : Option 𝒱.V) (i : grid0.Coords) (arg2 : Memref sig .tc .smem S6 .f32) (harg2 : arg2.IsWhole)
    (arg3 : Memref sig .tc .vmem S256x384 .f32) (harg3 : arg3.IsWhole)
    (arg4 : Memref sig .tc .vmem S2048x384 .f32) (harg4 : arg4.IsWhole)
    (arg5 : Memref sig .tc .vmem S2048x384 .f32) (harg5 : arg5.IsWhole)
    (arg6 : Memref sig .tc .vmem S256x256 .bf16) (harg6 : arg6.IsWhole)
    (arg7 : Memref sig .tc .vmem S256x384 .f32) (harg7 : arg7.IsWhole)
    (arg1 : BitVec 32) (c0 : BitVec 32)
    (x0 : Vec Ideal S6 .f32) (x1 : Vec Ideal S256x384 .f32) (x2 x3 : Vec Ideal S2048x384 .f32) (x4 : Vec Ideal S256x256 .bf16)
    (k : Fin (k0_t1_loop i).trips) (C) (f) :
    arg7.view.read (Elt Ideal) (arg7.view.writes (Elt Ideal) f
      (tripL_k0_t1 𝒱 c bd i arg2 harg2 arg3 harg3 arg4 harg4 arg5 harg5 arg6 harg6 arg7 harg7 arg1 (k0_pay85 x4) (k0_pay86 (qs x1 0)) (k0_pay87 (qs x1 1)) (k0_pay88 (qs x1 2)) (k0_pay89 (qs x1 3)) (k0_pay90 (qs x1 4)) (k0_pay91 (qs x1 5)) c0
      (harg2.unread x0) (harg4.unread x2) (harg5.unread x3) k (tup C) f))
      = fun j => arg7.view.read (Elt Ideal) f j
        + wide (fun h => contrib (nT x0 x1 x2 (back (qi i) k.val) h) x4 (C h) (ks x3 (back (qi i) k.val) h)) j := by
  unfold tripL_k0_t1 trip_k0_t1
  frame_out
  simp only [ld_off7, ld_off8, ld_off9, ld_off10, ld_off11, ld_off12, tup]
  funext y
  refine (View.read_writes_apply_eq_canon _ _ _ _
    (by set_option maxRecDepth 1000000 in exact View.cover_of_tiled_head _ _ _ (by rfl) _)).trans ?_
  canon_tiles x h
  · rw [wide_eq _ 5 y x h0 (by simpa using h1), at_eq (arg7.view.read (Elt Ideal) f) 320 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · rw [wide_eq _ 4 y x h0 (by simpa using h1), at_eq (arg7.view.read (Elt Ideal) f) 256 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · rw [wide_eq _ 3 y x h0 (by simpa using h1), at_eq (arg7.view.read (Elt Ideal) f) 192 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · rw [wide_eq _ 2 y x h0 (by simpa using h1), at_eq (arg7.view.read (Elt Ideal) f) 128 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · rw [wide_eq _ 1 y x h0 (by simpa using h1), at_eq (arg7.view.read (Elt Ideal) f) 64 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]
  · rw [wide_eq _ 0 y x h0 (by simpa using h1), at_eq (arg7.view.read (Elt Ideal) f) 0 (by decide) y x h0 (by simpa using h1)]
    pointwise [contrib, nT, nB, lm, κq, κl, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay85, k0_pay86, k0_pay87, k0_pay88, k0_pay89, k0_pay90, k0_pay91]

end Cert.KernelIdeal.Attn

end
-- ==== Proof.AttnLoop.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit
public import Idealize.ShloMosaic.Lib.Pointwise
public import proofs.«01_k».proof.Proof.AttnTrip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

local notation "𝕄" => MT nD τ sig Unit (Elt Ideal) ℕ (UR sig nD τ) ℕ

/-- After `k` trips of the loop the carries and the output block are the model's. -/
theorem loop_eq (𝒱 : Variants) (c : Dev nD) (bd : Option 𝒱.V) (i : grid0.Coords) (arg2 : Memref sig .tc .smem S6 .f32) (harg2 : arg2.IsWhole)
    (arg3 : Memref sig .tc .vmem S256x384 .f32) (harg3 : arg3.IsWhole)
    (arg4 : Memref sig .tc .vmem S2048x384 .f32) (harg4 : arg4.IsWhole)
    (arg5 : Memref sig .tc .vmem S2048x384 .f32) (harg5 : arg5.IsWhole)
    (arg6 : Memref sig .tc .vmem S256x256 .bf16) (harg6 : arg6.IsWhole)
    (arg7 : Memref sig .tc .vmem S256x384 .f32) (harg7 : arg7.IsWhole)
    (arg1 : BitVec 32) (c0 : BitVec 32)
    (x0 : Vec Ideal S6 .f32) (x1 : Vec Ideal S256x384 .f32) (x2 x3 : Vec Ideal S2048x384 .f32) (x4 : Vec Ideal S256x256 .bf16)
    (G) (hG : arg7.view.read (Elt Ideal) G = outs x0 x1 x2 x3 x4 (qi i) 0) (k : ℕ) (hk : k ≤ (k0_t1_loop i).trips) :
    (st_k0_t1 𝒱 c bd i arg2 harg2 arg3 harg3 arg4 harg4 arg5 harg5 arg6 harg6 arg7 harg7 arg1 (k0_pay85 x4) (k0_pay86 (qs x1 0)) (k0_pay87 (qs x1 1)) (k0_pay88 (qs x1 2)) (k0_pay89 (qs x1 3)) (k0_pay90 (qs x1 4)) (k0_pay91 (qs x1 5)) c0
      (harg2.unread x0) (harg4.unread x2) (harg5.unread x3) G (tup (carries x0 x1 x2 (qi i) 0)) k).1
      = tup (carries x0 x1 x2 (qi i) k)
    ∧ arg7.view.read (Elt Ideal) (arg7.view.writes (Elt Ideal) G (st_k0_t1 𝒱 c bd i arg2 harg2 arg3 harg3 arg4 harg4 arg5 harg5 arg6 harg6 arg7 harg7 arg1 (k0_pay85 x4) (k0_pay86 (qs x1 0)) (k0_pay87 (qs x1 1)) (k0_pay88 (qs x1 2)) (k0_pay89 (qs x1 3)) (k0_pay90 (qs x1 4)) (k0_pay91 (qs x1 5)) c0
      (harg2.unread x0) (harg4.unread x2) (harg5.unread x3) G (tup (carries x0 x1 x2 (qi i) 0)) k).2)
      = outs x0 x1 x2 x3 x4 (qi i) k := by
  induction k with
  | zero => exact ⟨rfl, hG⟩
  | succ k ih =>
    obtain ⟨ih1, ih2⟩ := ih (by omega)
    have hs := st_k0_t1_succ (F := Ideal) 𝒱 c bd i arg2 harg2 arg3 harg3 arg4 harg4 arg5 harg5 arg6 harg6 arg7 harg7 arg1 (k0_pay85 x4) (k0_pay86 (qs x1 0)) (k0_pay87 (qs x1 1)) (k0_pay88 (qs x1 2)) (k0_pay89 (qs x1 3)) (k0_pay90 (qs x1 4)) (k0_pay91 (qs x1 5)) c0
      (harg2.unread x0) (harg4.unread x2) (harg5.unread x3) G (tup (carries x0 x1 x2 (qi i) 0)) ⟨k, hk⟩
    simp only at hs
    rw [hs, ih1]
    constructor
    · rw [tripR_eq]
      rfl
    · rw [View.writes_append, tripL_eq, ih2]
      rfl

theorem trips_eq : ∀ i : grid0.Coords, (k0_t1_loop i).trips = (qi i).val := by decide +kernel

theorem off1_eq : ∀ i : grid0.Coords, k0_off1 i = ![256 * (i 1).val, 0] := by decide +kernel

theorem ld_off1 (x : Vec Ideal S2048x384 .f32) (i : grid0.Coords) (hb) :
    View.ld x (Rect.unit (k0_off1 i) ![256, 64] hb) = ks x (qi i) 0 := by
  funext j
  pointwise [ks, qi]
  simp only [off1_eq]
  simp

theorem ld_q0 (x : Vec Ideal S256x384 .f32) (hb) :
    View.ld x (Rect.unit ![0, 0] ![256, 64] hb) = qs x 0 := by
  funext j
  pointwise [qs]

theorem off2_eq : ∀ i : grid0.Coords, k0_off2 i = ![256 * (i 1).val, 64] := by decide +kernel

theorem ld_off2 (x : Vec Ideal S2048x384 .f32) (i : grid0.Coords) (hb) :
    View.ld x (Rect.unit (k0_off2 i) ![256, 64] hb) = ks x (qi i) 1 := by
  funext j
  pointwise [ks, qi]
  simp only [off2_eq]
  rfl

theorem ld_q1 (x : Vec Ideal S256x384 .f32) (hb) :
    View.ld x (Rect.unit ![0, 64] ![256, 64] hb) = qs x 1 := by
  funext j
  pointwise [qs]

theorem off3_eq : ∀ i : grid0.Coords, k0_off3 i = ![256 * (i 1).val, 128] := by decide +kernel

theorem ld_off3 (x : Vec Ideal S2048x384 .f32) (i : grid0.Coords) (hb) :
    View.ld x (Rect.unit (k0_off3 i) ![256, 64] hb) = ks x (qi i) 2 := by
  funext j
  pointwise [ks, qi]
  simp only [off3_eq]
  rfl

theorem ld_q2 (x : Vec Ideal S256x384 .f32) (hb) :
    View.ld x (Rect.unit ![0, 128] ![256, 64] hb) = qs x 2 := by
  funext j
  pointwise [qs]

theorem off4_eq : ∀ i : grid0.Coords, k0_off4 i = ![256 * (i 1).val, 192] := by decide +kernel

theorem ld_off4 (x : Vec Ideal S2048x384 .f32) (i : grid0.Coords) (hb) :
    View.ld x (Rect.unit (k0_off4 i) ![256, 64] hb) = ks x (qi i) 3 := by
  funext j
  pointwise [ks, qi]
  simp only [off4_eq]
  rfl

theorem ld_q3 (x : Vec Ideal S256x384 .f32) (hb) :
    View.ld x (Rect.unit ![0, 192] ![256, 64] hb) = qs x 3 := by
  funext j
  pointwise [qs]

theorem off5_eq : ∀ i : grid0.Coords, k0_off5 i = ![256 * (i 1).val, 256] := by decide +kernel

theorem ld_off5 (x : Vec Ideal S2048x384 .f32) (i : grid0.Coords) (hb) :
    View.ld x (Rect.unit (k0_off5 i) ![256, 64] hb) = ks x (qi i) 4 := by
  funext j
  pointwise [ks, qi]
  simp only [off5_eq]
  rfl

theorem ld_q4 (x : Vec Ideal S256x384 .f32) (hb) :
    View.ld x (Rect.unit ![0, 256] ![256, 64] hb) = qs x 4 := by
  funext j
  pointwise [qs]

theorem off6_eq : ∀ i : grid0.Coords, k0_off6 i = ![256 * (i 1).val, 320] := by decide +kernel

theorem ld_off6 (x : Vec Ideal S2048x384 .f32) (i : grid0.Coords) (hb) :
    View.ld x (Rect.unit (k0_off6 i) ![256, 64] hb) = ks x (qi i) 5 := by
  funext j
  pointwise [ks, qi]
  simp only [off6_eq]
  rfl

theorem ld_q5 (x : Vec Ideal S256x384 .f32) (hb) :
    View.ld x (Rect.unit ![0, 320] ![256, 64] hb) = qs x 5 := by
  funext j
  pointwise [qs]

end Cert.KernelIdeal.Attn

end
-- ==== Proof.AttnRun.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit
public import Idealize.ShloMosaic.Lib.Pointwise
public import proofs.«01_k».proof.Proof.AttnLoop

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

local notation "𝕄" => MT nD τ sig Unit (Elt Ideal) ℕ (UR sig nD τ) ℕ

set_option maxHeartbeats 2000000 in
theorem kernelRun (c : Dev nD) (i : grid0.Coords) (arg2 : Memref sig .tc .smem S6 .f32) (harg2 : arg2.IsWhole)
    (arg3 : Memref sig .tc .vmem S256x384 .f32) (harg3 : arg3.IsWhole)
    (arg4 : Memref sig .tc .vmem S2048x384 .f32) (harg4 : arg4.IsWhole)
    (arg5 : Memref sig .tc .vmem S2048x384 .f32) (harg5 : arg5.IsWhole)
    (arg6 : Memref sig .tc .vmem S256x256 .bf16) (harg6 : arg6.IsWhole)
    (arg7 : Memref sig .tc .vmem S256x384 .f32) (harg7 : arg7.IsWhole)
    (x0 : Vec Ideal S6 .f32) (x1 : Vec Ideal S256x384 .f32) (x2 : Vec Ideal S2048x384 .f32)
    (x3 : Vec Ideal S2048x384 .f32) (x4 : Vec Ideal S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outs x0 x1 x2 x3 x4 (qi i) (qi i).val)) -∗ K ⟨⟩))
          ⊢ wp frame (wpE (defs₀ (F := Ideal)) Variants.none c none) E (cc0_sb_prompt i arg2 harg2 arg3 harg3 arg4 harg4 arg5 harg5 arg6 harg6 arg7 harg7) K := by
    intro E K
    simp only [cc0_sb_prompt_eq_skeleton]; unfold cc0_sb_prompt_skel
    simp only [k0_part19_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    have h2 : Scf.trips (k0_t2_loop i).lb (k0_t2_loop i).ub (k0_t2_loop i).st = 0 := Nat.le_zero.1 (k0_t2_abs i).2.1
    have h1 : Scf.trips (k0_t1_loop i).lb (k0_t1_loop i).ub (k0_t1_loop i).st = (qi i).val := trips_eq i
    simp only [h2, h1]
    have e : kernelRun.sl.r c arg6 harg6 x4 = k0_pay85 x4 := by
      unfold kernelRun.sl.r
      frame_out
    have e0 : kernelRun.sl.r_1 c arg3 harg3 x1 = k0_pay86 (qs x1 0) := by
      unfold kernelRun.sl.r_1
      frame_out
      rw [ld_q0]
    have e1 : kernelRun.sl.r_2 c arg3 harg3 x1 = k0_pay87 (qs x1 1) := by
      unfold kernelRun.sl.r_2
      frame_out
      rw [ld_q1]
    have e2 : kernelRun.sl.r_3 c arg3 harg3 x1 = k0_pay88 (qs x1 2) := by
      unfold kernelRun.sl.r_3
      frame_out
      rw [ld_q2]
    have e3 : kernelRun.sl.r_4 c arg3 harg3 x1 = k0_pay89 (qs x1 3) := by
      unfold kernelRun.sl.r_4
      frame_out
      rw [ld_q3]
    have e4 : kernelRun.sl.r_5 c arg3 harg3 x1 = k0_pay90 (qs x1 4) := by
      unfold kernelRun.sl.r_5
      frame_out
      rw [ld_q4]
    have e5 : kernelRun.sl.r_6 c arg3 harg3 x1 = k0_pay91 (qs x1 5) := by
      unfold kernelRun.sl.r_6
      frame_out
      rw [ld_q5]
    have c0 : kernelRun.sl.r_34 c i arg2 harg2 arg3 harg3 arg4 harg4 x0 x1 x2 = carries x0 x1 x2 (qi i) 0 0 := by
      unfold kernelRun.sl.r_34
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have c1 : kernelRun.sl.r_35 c i arg2 harg2 arg3 harg3 arg4 harg4 x0 x1 x2 = carries x0 x1 x2 (qi i) 0 1 := by
      unfold kernelRun.sl.r_35
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have c2 : kernelRun.sl.r_36 c i arg2 harg2 arg3 harg3 arg4 harg4 x0 x1 x2 = carries x0 x1 x2 (qi i) 0 2 := by
      unfold kernelRun.sl.r_36
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have c3 : kernelRun.sl.r_37 c i arg2 harg2 arg3 harg3 arg4 harg4 x0 x1 x2 = carries x0 x1 x2 (qi i) 0 3 := by
      unfold kernelRun.sl.r_37
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have c4 : kernelRun.sl.r_38 c i arg2 harg2 arg3 harg3 arg4 harg4 x0 x1 x2 = carries x0 x1 x2 (qi i) 0 4 := by
      unfold kernelRun.sl.r_38
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have c5 : kernelRun.sl.r_39 c i arg2 harg2 arg3 harg3 arg4 harg4 x0 x1 x2 = carries x0 x1 x2 (qi i) 0 5 := by
      unfold kernelRun.sl.r_39
      frame_out
      simp only [ld_off1, ld_off2, ld_off3, ld_off4, ld_off5, ld_off6, ld_q0, ld_q1, ld_q2, ld_q3, ld_q4, ld_q5]
      funext j
      pointwise [carries, carryDiag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    have hG : arg7.view.read (Elt Ideal) (arg7.view.writes (Elt Ideal) arg7.view.junk
        (kernelRun.sl.H5_6 c i arg2 harg2 arg3 harg3 arg4 harg4 arg5 harg5 arg6 harg6 x0 x1 x2 x3 x4))
        = outs x0 x1 x2 x3 x4 (qi i) 0 := by
      unfold kernelRun.sl.H5_6
      frame_out
      simp only [ld_off1, ld_off2, ld_off3, ld_off4, ld_off5, ld_off6, ld_q0, ld_q1, ld_q2, ld_q3, ld_q4, ld_q5]
      funext y
      unfold outs
      canon_tiles x h
      · rw [wide_eq _ 5 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
      · rw [wide_eq _ 4 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
      · rw [wide_eq _ 3 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
      · rw [wide_eq _ 2 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
      · rw [wide_eq _ 1 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
      · rw [wide_eq _ 0 y x h0 (by simpa using h1)]
        pointwise [diag, below, nT, nB, lm, κq, κl, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay85, k0_pay86, k0_pay87, k0_pay88, k0_pay89, k0_pay90, k0_pay91]
    rw [e, e0, e1, e2, e3, e4, e5, c0, c1, c2, c3, c4, c5]
    change arg7.view.read (Elt Ideal) (arg7.view.writes (Elt Ideal) arg7.view.junk ([] ++ (_ ++
      kernelRun.sl.H5_6 c i arg2 harg2 arg3 harg3 arg4 harg4 arg5 harg5 arg6 harg6 x0 x1 x2 x3 x4))) = _
    rw [List.nil_append, View.writes_append]
    exact (loop_eq Variants.none c none i arg2 harg2 arg3 harg3 arg4 harg4 arg5 harg5 arg6 harg6 arg7 harg7 _ _
      x0 x1 x2 x3 x4 _ hG (qi i).val (trips_eq i).ge).2

end Cert.KernelIdeal.Attn

end
-- ==== Proof.AttnFrame.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit
public import Idealize.ShloMosaic.Lib.Pointwise
public import Idealize.ShloMosaic.Lib.Claim
public import proofs.«01_k».proof.Proof.AttnRun

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body leaves at a grid point: every input's block as it was, the output's block at the model's value
    after all the tiles of the point's query block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs (iblk m c 0 t) (iblk m c 1 t) (iblk m c 2 t) (iblk m c 3 t) (iblk m c 4 t)
        (qi (grid0.coords t)) (qi (grid0.coords t)).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outs (iblk m c 0 t) (iblk m c 1 t) (iblk m c 2 t) (iblk m c 3 t) (iblk m c 4 t)
        (qi (grid0.coords t)) (qi (grid0.coords t)).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! The buffers the body runs on at a point. -/
abbrev ms0_0 (t : Fin cfg0.N) : Memref sig .tc .smem S6 .f32 := win0_0.stage (cfg0.slots t 0)
abbrev ms0_1 (t : Fin cfg0.N) : Memref sig .tc .vmem S256x384 .f32 := win0_1.stage (cfg0.slots t 1)
abbrev ms0_2 (t : Fin cfg0.N) : Memref sig .tc .vmem S2048x384 .f32 := win0_2.stage (cfg0.slots t 2)
abbrev ms0_3 (t : Fin cfg0.N) : Memref sig .tc .vmem S2048x384 .f32 := win0_3.stage (cfg0.slots t 3)
abbrev ms0_4 (t : Fin cfg0.N) : Memref sig .tc .vmem S256x256 .bf16 := win0_4.stage (cfg0.slots t 4)
abbrev ms0_5 (t : Fin cfg0.N) : Memref sig .tc .vmem S256x384 .f32 := win0_5.stage (cfg0.slots t 5)

/-- Before the body at a point: the inputs' buffers at what they hold, the output's buffer at anything. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- After the body at a point: every buffer at what `dats` says. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the run of one grid point at the point's blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
set_option maxHeartbeats 800000 in
/-- The launch: every output array at what `dats` leaves, every semaphore at zero. -/
theorem run_main_sem : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_sem m ρ)

/-- The frame: the arguments end unchanged, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_sem m ρ))

/-- The run with the output array named and the arguments kept. -/
theorem run_blocks : θ_run defs (onTc (τ := τ) (main (F := Ideal))) ⟨m, fun _ => 0, ρ⟩ fun r => ∀ c : Dev nD,
      r.2.mem ((c : Thread nD τ).loc main_v7) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 5,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 0).trans (((dats m 0 c).arrAt_in 0 rfl _).trans ((A_eq m c 0).trans (V_main_arg3 m c)))⟩) (run_main m ρ)

end Cert.KernelIdeal.Attn

end
-- ==== Proof.AttnScalar.lean ====
module

public import proofs.«01_k».proof.Proof.AttnModel
public import Idealize.ShloMosaic.PureOps.Ideal.Laws
public import Idealize.ShloMosaic.PureOps.IdealRules

@[expose] public section

noncomputable section

open Idealize.ShloMosaic

namespace Cert.Proof.Attn

open Cert.KernelIdeal.Attn

/-! # One score, in the reals: the softplus, and the same in base 2 -/

/-- The softplus `log (1 + e^x)` in the form that does not overflow. Minus it is the log-sigmoid of `-x`. -/
def sp (x : ℝ) : ℝ := max x 0 + Real.log (1 + Real.exp (-|x|))

/-- `log (1 + e^x) - x = log (1 + e^(-x))`. -/
theorem sp_sub (x : ℝ) : sp x - x = sp (-x) := by
  unfold sp
  rw [abs_neg]
  rcases le_total x 0 with h | h
  · rw [max_eq_right h, max_eq_left (by linarith : (0 : ℝ) ≤ -x)]; ring
  · rw [max_eq_left h, max_eq_right (by linarith : -x ≤ (0 : ℝ))]; ring

/-- One over `log 2`. -/
def L : ℝ := (Real.log 2)⁻¹

theorem log2_pos : 0 < Real.log 2 := Real.log_pos (by norm_num)
theorem L_pos : 0 < L := inv_pos.2 log2_pos
theorem L_mul : Real.log 2 * L = 1 := mul_inv_cancel₀ log2_pos.ne'

theorem κq_eq : κq = ((-((1 / 8) * L) : ℝ) : EReal) := IdealRules.named_const.ideal_named_scalar _ _ _ _ rfl
theorem κl_eq : κl = ((L : ℝ) : EReal) := IdealRules.named_const.ideal_named_scalar _ _ _ _ rfl

/-- A power of two whose exponent is a base-2 logarithm. -/
theorem exp2_scaled (x : ℝ) : (FloatOps.exp2 (F := Ideal) (φ := .f32) ((x * L : ℝ) : EReal)) = ((Real.exp x : ℝ) : EReal) := by
  show Ideal.exp2 ((x * L : ℝ) : EReal) = _
  rw [Ideal.exp2_coe]
  congr 1
  show (2 : ℝ) ^ (x * L) = _
  rw [Real.rpow_def_of_pos (by norm_num : (0 : ℝ) < 2)]
  congr 1
  rw [mul_comm x, ← mul_assoc, L_mul, one_mul]

theorem min_coe (a b : ℝ) : min (a : EReal) (b : EReal) = ((min a b : ℝ) : EReal) :=
  (EReal.coe_strictMono.monotone.map_min).symm
theorem max_coe (a b : ℝ) : max (a : EReal) (b : EReal) = ((max a b : ℝ) : EReal) :=
  (EReal.coe_strictMono.monotone.map_max).symm

theorem abs_coe (a : ℝ) : max (a : EReal) (-(a : EReal)) = ((|a| : ℝ) : EReal) := by
  rw [← EReal.coe_neg, max_coe]; rfl

theorem log_one_add (x : ℝ) (h : 0 ≤ x) : Ideal.log (1 + (x : EReal)) = ((Real.log (1 + x) : ℝ) : EReal) := by
  rw [show (1 : EReal) + (x : EReal) = ((1 + x : ℝ) : EReal) from by rw [EReal.coe_add, EReal.coe_one],
    Ideal.log_coe, if_neg (by linarith)]

/-- The kernel's logarithm of one minus the break fraction: minus the softplus of the score, in base 2. -/
theorem lm_scaled (z : ℝ) : lm (((-z * L : ℝ) : EReal)) = ((-sp z * L : ℝ) : EReal) := by
  unfold lm
  rw [show FloatOps.absf (F := Ideal) (φ := .f32) ((-z * L : ℝ) : EReal) = ((|z| * L : ℝ) : EReal) from by
      show max ((-z * L : ℝ) : EReal) (-((-z * L : ℝ) : EReal)) = _
      rw [abs_coe, abs_mul, abs_neg, abs_of_pos L_pos],
    show (0 : Ideal .f32) - ((|z| * L : ℝ) : EReal) = ((-|z| * L : ℝ) : EReal) from by
      show (0 : EReal) - _ = _
      rw [← EReal.coe_zero, ← EReal.coe_sub]; congr 1; ring,
    exp2_scaled, κl_eq]
  show min ((-z * L : ℝ) : EReal) 0 - Ideal.log (1 + _) * (L : EReal) = _
  rw [log_one_add _ (Real.exp_pos _).le, ← EReal.coe_zero, min_coe, ← EReal.coe_mul, ← EReal.coe_sub]
  congr 1
  unfold sp
  rcases le_total z 0 with h | h
  · rw [min_eq_right (mul_nonneg (by linarith) L_pos.le), max_eq_right h]; ring
  · rw [min_eq_left (mul_nonpos_of_nonpos_of_nonneg (by linarith) L_pos.le), max_eq_left h]; ring

/-- The same minus the kernel's score: the logarithm of the break fraction. -/
theorem lm_sub (z : ℝ) : lm (((-z * L : ℝ) : EReal)) - ((-z * L : ℝ) : EReal) = ((-sp (-z) * L : ℝ) : EReal) := by
  rw [lm_scaled]
  show (((-sp z * L : ℝ) : EReal)) - ((-z * L : ℝ) : EReal) = _
  rw [← EReal.coe_sub, ← sp_sub]; congr 1; ring

/-- The host's softplus, operation by operation. -/
theorem host_sp (x : ℝ) :
    Scalar.select (Ideal.cmp .une ((x : EReal) - 0) ((x : EReal) - 0)) ((x : EReal) + 0)
      (max (x : EReal) 0 + Ideal.log1p (Ideal.exp (-(max ((x : EReal) - 0) (-((x : EReal) - 0)))))) = ((sp x : ℝ) : EReal) := by
  rw [sub_zero, abs_coe, ← EReal.coe_neg, Ideal.exp_coe]
  unfold Ideal.log1p
  rw [log_one_add _ (Real.exp_pos _).le, ← EReal.coe_zero, max_coe, ← EReal.coe_add]
  simp [Scalar.select, Ideal.cmp, sp]

/-! # Sums over the positions of a tile, as sums over an interval of positions -/

/-- A finite sum of real numbers, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A tile's positions from `a` to `b`, counted from the tile's first. -/
theorem sum_part {N : ℕ} (f : ℕ → ℝ) (o a b : ℕ) (hb : b ≤ N) :
    (∑ e : Fin N, if a ≤ e.val ∧ e.val < b then f (o + e.val) else 0) = ∑ s ∈ Finset.Ico (o + a) (o + b), f s := by
  rw [Fin.sum_univ_eq_sum_range (fun e => if a ≤ e ∧ e < b then f (o + e) else 0) N, ← Finset.sum_filter]
  have : (Finset.range N).filter (fun e => a ≤ e ∧ e < b) = Finset.Ico a b := by
    ext e; simp only [Finset.mem_filter, Finset.mem_range, Finset.mem_Ico]; omega
  rw [this, Finset.sum_Ico_add f a b o, Nat.add_comm a, Nat.add_comm b]

/-- A whole tile. -/
theorem sum_tile {N : ℕ} (f : ℕ → ℝ) (o : ℕ) : (∑ e : Fin N, f (o + e.val)) = ∑ s ∈ Finset.Ico o (o + N), f s := by
  have h := sum_part f o 0 N le_rfl
  rw [Nat.add_zero] at h
  rw [← h]
  exact Finset.sum_congr rfl fun e _ => (if_pos ⟨Nat.zero_le _, e.isLt⟩).symm

end Cert.Proof.Attn

end
-- ==== Proof.AttnMath.lean ====
module

public import proofs.«01_k».proof.Proof.AttnScalar
public import Idealize.ShloMosaic.Lib.WordCmp

@[expose] public section

noncomputable section

open Idealize.ShloMosaic

namespace Cert.Proof.Attn

open Cert.KernelIdeal Cert.KernelIdeal.Attn Idealize.ShloMosaic.WordCmp

/-! # One tile of one head, in the reals

A row of the kernel's scores is given by `z`, the score against each position of the batch's keys; `-sp (z s)` is the
logarithm of the part of the stick that position `s` leaves, `-sp (-(z s))` that of the part it breaks off. -/

/-- The weight of position `s` in a row whose sum runs over the positions before `T`. -/
def weight (z : ℕ → ℝ) (T s : ℕ) : ℝ := Real.exp (-sp (-(z s)) + ∑ e ∈ Finset.Ico (s + 1) T, -sp (z e))

theorem below_eq (r c : Fin 256) (x : Ideal .f32) : below r c x = if c.val < r.val then x else 0 := by
  have hr := r.isLt
  have hc := c.isLt
  have key := cmpi_slt_ofNat_eq_one_iff (w := 32) (a := c.val) (b := r.val) (by norm_num; omega) (by norm_num; omega)
  unfold below Scalar.select
  by_cases h : c.val < r.val
  · rw [if_pos h]; exact if_pos (key.2 h)
  · rw [if_neg h]; exact if_neg (fun h' => h (key.1 h'))

theorem coe_ite (p : Prop) [Decidable p] (a : ℝ) : (if p then ((a : ℝ) : EReal) else 0) = (((if p then a else 0) : ℝ) : EReal) := by
  split <;> simp

section
variable (n : Vec Ideal S256x256 .f32) (M : Vec Ideal S256x256 .bf16) (vt : Vec Ideal S256x64 .f32)
  (r : Fin 256) (d : Fin 64) (z v : ℕ → ℝ) (t : ℕ)
  (hn : ∀ c : Fin 256, n (ix2 r c) = ((-z (256 * t + c.val) * L : ℝ) : EReal))
include hn

theorem carryDiag_eq :
    carryDiag n (ix2 r 0) = (((∑ s ∈ Finset.Ico (256 * t) (256 * t + r.val), -sp (z s)) * L : ℝ) : EReal) := by
  show (0 : EReal) + ∑ x : Fin 256, below r x (lm (n (ix2 r x))) = _
  rw [zero_add]
  have h := sum_part (N := 256) (fun s => -sp (z s) * L) (256 * t) 0 r.val r.isLt.le
  rw [Nat.add_zero] at h
  rw [Finset.sum_mul, ← h, ← coe_sum]
  refine Finset.sum_congr rfl fun x _ => ?_
  rw [below_eq, hn, lm_scaled]
  show (if _ then ((_ : ℝ) : EReal) else (0 : EReal)) = _
  rw [coe_ite]
  simp

theorem carryStep_eq (a : Vec Ideal S256x1 .f32) (A : ℝ) (ha : a (ix2 r 0) = ((A * L : ℝ) : EReal)) :
    carryStep n a (ix2 r 0)
      = (((A + ∑ s ∈ Finset.Ico (256 * t) (256 * t + 256), -sp (z s)) * L : ℝ) : EReal) := by
  show (a (ix2 r 0) : EReal) + ∑ x : Fin 256, lm (n (ix2 r x)) = _
  rw [ha, add_mul, EReal.coe_add, Finset.sum_mul, ← sum_tile (N := 256) (fun s => -sp (z s) * L), ← coe_sum]
  exact congrArg _ (Finset.sum_congr rfl fun x _ => by rw [hn, lm_scaled])

variable (hM : ∀ e c : Fin 256, M (ix2 e c) = (((if c.val < e.val then 1 else 0) : ℝ) : EReal))
  (hv : ∀ c : Fin 256, vt (ix2 c d) = ((v (256 * t + c.val) : ℝ) : EReal))
include hM hv

theorem contrib_eq (a : Vec Ideal S256x1 .f32) (T : ℕ) (hT : 256 * t + 256 ≤ T)
    (ha : a (ix2 r 0) = (((∑ s ∈ Finset.Ico (256 * t + 256) T, -sp (z s)) * L : ℝ) : EReal)) :
    contrib n M a vt (ix2 r d)
      = ((∑ s ∈ Finset.Ico (256 * t) (256 * t + 256), weight z T s * v s : ℝ) : EReal) := by
  rw [← sum_tile (N := 256) (fun s => weight z T s * v s), ← coe_sum]
  refine Finset.sum_congr rfl fun x _ => ?_
  show FloatOps.exp2 (F := Ideal) (φ := .f32) ((lm (n (ix2 r x)) - n (ix2 r x) : EReal)
      + (∑ e : Fin 256, (lm (n (ix2 r e)) : EReal) * M (ix2 e x)) + a (ix2 r 0)) * vt (ix2 x d) = _
  have hs : (∑ e : Fin 256, (lm (n (ix2 r e)) : EReal) * M (ix2 e x))
      = (((∑ s ∈ Finset.Ico (256 * t + (x.val + 1)) (256 * t + 256), -sp (z s)) * L : ℝ) : EReal) := by
    rw [Finset.sum_mul, ← sum_part (N := 256) (fun s => -sp (z s) * L) (256 * t) (x.val + 1) 256 le_rfl, ← coe_sum]
    refine Finset.sum_congr rfl fun e _ => ?_
    rw [hn, lm_scaled, hM]
    rw [← EReal.coe_mul]
    congr 1
    have := e.isLt
    by_cases h : x.val < e.val
    · rw [if_pos h, if_pos ⟨h, this⟩, mul_one]
    · rw [if_neg h, if_neg (by omega : ¬(x.val + 1 ≤ e.val ∧ e.val < 256)), mul_zero]
  rw [hs, hn, lm_sub, ha, hv]
  rw [show ((-sp (-z (256 * t + x.val)) * L : ℝ) : EReal)
        + (((∑ s ∈ Finset.Ico (256 * t + (x.val + 1)) (256 * t + 256), -sp (z s)) * L : ℝ) : EReal)
        + (((∑ s ∈ Finset.Ico (256 * t + 256) T, -sp (z s)) * L : ℝ) : EReal)
      = (((-sp (-z (256 * t + x.val)) + ∑ s ∈ Finset.Ico (256 * t + x.val + 1) T, -sp (z s)) * L : ℝ) : EReal) from by
    have := x.isLt
    rw [← EReal.coe_add, ← EReal.coe_add, ← Finset.sum_Ico_consecutive _ (by omega : 256 * t + x.val + 1 ≤ 256 * t + 256) hT]
    congr 1
    rw [Nat.add_assoc (256 * t)]
    ring, exp2_scaled]
  exact (EReal.coe_mul _ _).symm

theorem diag_eq :
    diag n M vt (ix2 r d)
      = ((∑ s ∈ Finset.Ico (256 * t) (256 * t + r.val), weight z (256 * t + r.val) s * v s : ℝ) : EReal) := by
  have h0 := sum_part (N := 256) (fun s => weight z (256 * t + r.val) s * v s) (256 * t) 0 r.val r.isLt.le
  rw [Nat.add_zero] at h0
  rw [← h0, ← coe_sum]
  refine Finset.sum_congr rfl fun x _ => ?_
  show below r x (FloatOps.exp2 (F := Ideal) (φ := .f32) ((lm (n (ix2 r x)) - n (ix2 r x) : EReal)
      + (∑ e : Fin 256, (below r e (lm (n (ix2 r e))) : EReal) * M (ix2 e x)) + (0 : EReal))) * vt (ix2 x d) = _
  have hs : (∑ e : Fin 256, (below r e (lm (n (ix2 r e))) : EReal) * M (ix2 e x))
      = (((∑ s ∈ Finset.Ico (256 * t + (x.val + 1)) (256 * t + r.val), -sp (z s)) * L : ℝ) : EReal) := by
    rw [Finset.sum_mul, ← sum_part (N := 256) (fun s => -sp (z s) * L) (256 * t) (x.val + 1) r.val r.isLt.le, ← coe_sum]
    refine Finset.sum_congr rfl fun e _ => ?_
    rw [below_eq, hn, lm_scaled, hM]
    show (if _ then ((_ : ℝ) : EReal) else (0 : EReal)) * _ = _
    rw [coe_ite, ← EReal.coe_mul]
    congr 1
    by_cases h : x.val < e.val <;> by_cases h' : e.val < r.val
    · rw [if_pos h', if_pos h, if_pos ⟨h, h'⟩, mul_one]
    · rw [if_neg h', if_neg (by omega : ¬(x.val + 1 ≤ e.val ∧ e.val < r.val)), zero_mul]
    · rw [if_neg h, if_neg (by omega : ¬(x.val + 1 ≤ e.val ∧ e.val < r.val)), mul_zero]
    · rw [if_neg h', if_neg (by omega : ¬(x.val + 1 ≤ e.val ∧ e.val < r.val)), zero_mul]
  rw [hs, hn, lm_sub, hv, add_zero, ← EReal.coe_add, ← add_mul, exp2_scaled, below_eq]
  show (if _ then ((_ : ℝ) : EReal) else (0 : EReal)) * _ = _
  rw [coe_ite, ← EReal.coe_mul]
  congr 1
  by_cases h : x.val < r.val
  · rw [if_pos h, if_pos ⟨Nat.zero_le _, h⟩]; rfl
  · rw [if_neg h, if_neg (by omega : ¬(0 ≤ x.val ∧ x.val < r.val)), zero_mul]
end

/-! # A block of queries -/

section
variable (x0 : Vec Ideal S6 .f32) (x1 : Vec Ideal S256x384 .f32) (x2 x3 : Vec Ideal S2048x384 .f32)
  (x4 : Vec Ideal S256x256 .bf16) (h : Fin 6) (r : Fin 256) (d : Fin 64) (z v : ℕ → ℝ) (i : Fin 8)
  (hn : ∀ (t : Fin 8) (c : Fin 256), nT x0 x1 x2 t h (ix2 r c) = ((-z (256 * t.val + c.val) * L : ℝ) : EReal))
include hn

/-- The carry after `k` tiles to the left of the diagonal: the sum over the positions which those tiles hold and which
    come before the row's own. -/
theorem carries_eq : ∀ k : ℕ, k ≤ i.val → carries x0 x1 x2 i k h (ix2 r 0)
    = (((∑ s ∈ Finset.Ico (256 * (i.val - k)) (256 * i.val + r.val), -sp (z s)) * L : ℝ) : EReal)
  | 0, _ => carryDiag_eq _ r z i.val (hn i)
  | k + 1, hk => by
    have hb : (back i k).val = i.val - (k + 1) := by show i.val - 1 - k = _; omega
    show carryStep (nT x0 x1 x2 (back i k) h) (carries x0 x1 x2 i k h) (ix2 r 0) = _
    rw [carryStep_eq _ r z (back i k).val (hn (back i k)) _ _ (carries_eq k (by omega)), hb,
      add_comm, show 256 * (i.val - (k + 1)) + 256 = 256 * (i.val - k) from by omega,
      Finset.sum_Ico_consecutive _ (by omega) (by omega)]

variable (hM : ∀ e c : Fin 256, x4 (ix2 e c) = (((if c.val < e.val then 1 else 0) : ℝ) : EReal))
  (hv : ∀ (t : Fin 8) (c : Fin 256), ks x3 t h (ix2 c d) = ((v (256 * t.val + c.val) : ℝ) : EReal))
include hM hv

/-- The output after `k` tiles to the left of the diagonal: the weighted sum of the values which those tiles hold. -/
theorem outs_eq : ∀ k : ℕ, k ≤ i.val →
    outs x0 x1 x2 x3 x4 i k (ix2 r ⟨64 * h.val + d.val, by have := h.isLt; have := d.isLt; omega⟩)
      = ((∑ s ∈ Finset.Ico (256 * (i.val - k)) (256 * i.val + r.val), weight z (256 * i.val + r.val) s * v s : ℝ) : EReal) := by
  have hw : ∀ D : Fin 6 → Vec Ideal S256x64 .f32,
      wide D (ix2 r ⟨64 * h.val + d.val, by have := h.isLt; have := d.isLt; omega⟩) = D h (ix2 r d) := fun D => by
    have h1 : (64 * h.val + d.val) / 64 = h.val := by have := d.isLt; omega
    have h2 : (64 * h.val + d.val) % 64 = d.val := by have := d.isLt; omega
    show D ⟨(64 * h.val + d.val) / 64, _⟩ (ix2 r ⟨(64 * h.val + d.val) % 64, _⟩) = _
    simp only [h1, h2]
  intro k
  induction k with
  | zero => exact fun _ => (hw _).trans (diag_eq _ _ _ r d z v i.val (hn i) hM (hv i))
  | succ k ih =>
    intro hk
    have hb : (back i k).val = i.val - (k + 1) := by show i.val - 1 - k = _; omega
    have hb' : 256 * (back i k).val + 256 = 256 * (i.val - k) := by rw [hb]; omega
    have hc := carries_eq x0 x1 x2 h r z i hn k (by omega)
    rw [← hb'] at hc
    show (outs x0 x1 x2 x3 x4 i k (ix2 r _) : EReal) + wide _ (ix2 r _) = _
    rw [hw, ih (by omega), contrib_eq _ _ _ r d z v (back i k).val (hn _) hM (hv _) _ (256 * i.val + r.val)
      (by rw [hb]; omega) hc, ← EReal.coe_add, hb', hb, add_comm, Finset.sum_Ico_consecutive _ (by omega) (by omega)]
end

end Cert.Proof.Attn

end
-- ==== Proof.AttnCumsum.lean ====
module

public import Idealize.ShloMosaic.PureOps
public import Idealize.ShloMosaic.PureOps.Ideal
public import Idealize.ShloMosaic.PureOps.Ideal.Laws
public import Idealize.ShloMosaic.Lib.Pointwise.Index

@[expose] public section

noncomputable section

open Idealize.ShloMosaic

namespace Cert.Proof.Attn

/-- A left fold that adds one term after the other is the sum of the terms. -/
theorem foldl_add {α : Type*} (f : α → EReal) : ∀ (l : List α) (a : EReal), l.foldl (fun r n => r + f n) a = a + (l.map f).sum
  | [], a => by simp
  | x :: l, a => by rw [List.foldl_cons, foldl_add f l, List.map_cons, List.sum_cons, add_assoc]

/-- The cumulative sum from the end along the last of four axes: the entry at `s` adds up the entries from `s` on. -/
theorem suffix_sum {A B C N P : ℕ} (hP : P = N - 1) (x : (⟨4, ![A, B, C, N]⟩ : Shape).Idx → EReal)
    (h : (⟨4, ![A, B, C, N]⟩ : Shape).ReduceWindows ![1, 1, 1, N] ![1, 1, 1, 1] ![0, 0, 0, 0] ![0, 0, 0, P] ⟨4, ![A, B, C, N]⟩)
    (b : Fin A) (c : Fin B) (t : Fin C) (s : Fin N) :
    Ideal.hostReduceWindowAdd (s := ⟨4, ![A, B, C, N]⟩) ![1, 1, 1, N] ![1, 1, 1, 1] ![0, 0, 0, 0] ![0, 0, 0, P] h x 0 (ix4 b c t s)
      = ∑ n : Fin N, if hn : s.val + n.val < N then x (ix4 b c t ⟨s.val + n.val, hn⟩) else 0 := by
  unfold Ideal.hostReduceWindowAdd Host.reduceWindow
  dsimp only
  refine (foldl_add _ _ _).trans ?_
  rw [zero_add, ← Fin.sum_univ_def]
  refine (Equiv.sum_comp (Shape.rowMajor ⟨4, ![1, 1, 1, N]⟩).symm (fun w : (⟨4, ![1, 1, 1, N]⟩ : Shape).Idx => if hin : ∀ a : Fin 4, (![0, 0, 0, 0] : Fin 4 → ℕ) a
      ≤ (ix4 b c t s a).val * (![1, 1, 1, 1] : Fin 4 → ℕ) a + (w a).val
      ∧ (ix4 b c t s a).val * (![1, 1, 1, 1] : Fin 4 → ℕ) a + (w a).val - (![0, 0, 0, 0] : Fin 4 → ℕ) a < (![A, B, C, N] : Fin 4 → ℕ) a
    then x (fun a => ⟨(ix4 b c t s a).val * (![1, 1, 1, 1] : Fin 4 → ℕ) a + (w a).val - (![0, 0, 0, 0] : Fin 4 → ℕ) a, (hin a).2⟩) else 0)).trans ?_
  refine Fintype.sum_equiv ⟨fun w => w 3, fun n => ix4 0 0 0 n, fun w => ?_, fun n => rfl⟩ _ _ fun w => ?_
  · funext a
    fin_cases a
    · exact (Subsingleton.elim (α := Fin 1) _ _)
    · exact (Subsingleton.elim (α := Fin 1) _ _)
    · exact (Subsingleton.elim (α := Fin 1) _ _)
    · rfl
  · have h0 : (w 0).val = 0 := Nat.lt_one_iff.1 (w 0).isLt
    have h1 : (w 1).val = 0 := Nat.lt_one_iff.1 (w 1).isLt
    have h2 : (w 2).val = 0 := Nat.lt_one_iff.1 (w 2).isLt
    have hb := b.isLt
    have hc := c.isLt
    have ht := t.isLt
    by_cases h : s.val + (w 3).val < N
    · have hin : ∀ a : Fin 4, (![0, 0, 0, 0] : Fin 4 → ℕ) a
          ≤ (ix4 b c t s a).val * (![1, 1, 1, 1] : Fin 4 → ℕ) a + (w a).val
          ∧ (ix4 b c t s a).val * (![1, 1, 1, 1] : Fin 4 → ℕ) a + (w a).val - (![0, 0, 0, 0] : Fin 4 → ℕ) a < (![A, B, C, N] : Fin 4 → ℕ) a := by
        intro a
        fin_cases a
        · show 0 ≤ b.val * 1 + (w 0).val ∧ b.val * 1 + (w 0).val - 0 < A
          omega
        · show 0 ≤ c.val * 1 + (w 1).val ∧ c.val * 1 + (w 1).val - 0 < B
          omega
        · show 0 ≤ t.val * 1 + (w 2).val ∧ t.val * 1 + (w 2).val - 0 < C
          omega
        · show 0 ≤ s.val * 1 + (w 3).val ∧ s.val * 1 + (w 3).val - 0 < N
          omega
      refine (dif_pos hin).trans (Eq.trans ?_ (dif_pos h).symm)
      congr 1
      funext a
      fin_cases a
      · exact Fin.ext (show b.val * 1 + (w 0).val - 0 = b.val by omega)
      · exact Fin.ext (show c.val * 1 + (w 1).val - 0 = c.val by omega)
      · exact Fin.ext (show t.val * 1 + (w 2).val - 0 = t.val by omega)
      · exact Fin.ext (show s.val * 1 + (w 3).val - 0 = s.val + (w 3).val by omega)
    · show _ = if hn : s.val + (w 3).val < N then x (ix4 b c t ⟨s.val + (w 3).val, hn⟩) else 0
      rw [dif_neg h]
      refine dif_neg fun hin => h ?_
      have h3 := (hin 3).2
      change s.val * 1 + (w 3).val - 0 < N at h3
      omega

end Cert.Proof.Attn

end
-- ==== Proof.AttnRef.lean ====
module

public import proofs.«01_k».proof.Proof.AttnMath
public import proofs.«01_k».proof.Proof.AttnCumsum
public import proofs.«01_k».proof.Proof.Gen.ReferenceIdeal.Read

@[expose] public section

noncomputable section

open Idealize.ShloMosaic

namespace Cert.Proof.Attn

open Cert.ReferenceIdeal Cert.ReferenceIdeal.Read Idealize.ShloMosaic.WordCmp

/-! # The reference, in the reals -/

/-- Where position `t` of batch `b` lies among the rows of an argument. -/
def row (b : Fin 8) (t : Fin 2048) : Fin 16384 := ⟨2048 * b.val + t.val, by have := b.isLt; have := t.isLt; omega⟩
/-- Where lane `d` of head `h` lies among the columns of an argument. -/
def col (h : Fin 6) (d : Fin 64) : Fin 384 := ⟨64 * h.val + d.val, by have := h.isLt; have := d.isLt; omega⟩

/-- The score of query `t` against the key at position `s`: their product over the lanes of the head, scaled, and the
    head's bias. -/
def score (Q K : S16384x384.Idx → ℝ) (B : S6.Idx → ℝ) (b : Fin 8) (h : Fin 6) (t : Fin 2048) (s : ℕ) : ℝ :=
  (∑ d : Fin 64, Q (ix2 (row b t) (col h d)) * K (ix2 (row b ⟨s % 2048, Nat.mod_lt _ (by norm_num)⟩) (col h d))) * (1 / 8)
    + B (ix1 h)

/-- The entry of `V` at position `s`. -/
def entry (V : S16384x384.Idx → ℝ) (b : Fin 8) (h : Fin 6) (d : Fin 64) (s : ℕ) : ℝ :=
  V (ix2 (row b ⟨s % 2048, Nat.mod_lt _ (by norm_num)⟩) (col h d))

/-- One entry of the attention's output. -/
def result (Q K V : S16384x384.Idx → ℝ) (B : S6.Idx → ℝ) (b : Fin 8) (t : Fin 2048) (h : Fin 6) (d : Fin 64) : ℝ :=
  ∑ s ∈ Finset.Ico 0 t.val, weight (score Q K B b h t) t.val s * entry V b h d s

theorem eighth : (Ideal.ofBits .f32 0x3E000000#32 : EReal) = ((1 / 8 : ℝ) : EReal) := by
  simp [Ideal.ofBits, Ideal.ieee, -EReal.coe_mul]; norm_num

section
variable (x0 x1 x2 : (⟨S16384x384, .f32⟩ : BufTy).Contents (Elt Ideal)) (x3 : (⟨S6, .f32⟩ : BufTy).Contents (Elt Ideal))
  (Q K V : S16384x384.Idx → ℝ) (B : S6.Idx → ℝ)

theorem idx_split (b : Fin 8) (t : Fin 2048) (h : Fin 6) (d : Fin 64) : idx_main_v0 (ix4 b t h d) = ix2 (row b t) (col h d) := by
  have := b.isLt; have := t.isLt; have := h.isLt; have := d.isLt
  funext a
  fin_cases a
  · exact Fin.ext (show (((b.val * 2048 + t.val) * 6 + h.val) * 64 + d.val) / 384 = 2048 * b.val + t.val by omega)
  · exact Fin.ext (show (((b.val * 2048 + t.val) * 6 + h.val) * 64 + d.val) % 384 = 64 * h.val + d.val by omega)

theorem idx_join (b : Fin 8) (t : Fin 2048) (h : Fin 6) (d : Fin 64) : idx_main_v27 (ix2 (row b t) (col h d)) = ix4 b t h d := by
  have := b.isLt; have := t.isLt; have := h.isLt; have := d.isLt
  funext a
  fin_cases a
  · exact Fin.ext (show ((2048 * b.val + t.val) * 384 + (64 * h.val + d.val)) / 786432 = b.val by omega)
  · exact Fin.ext (show ((2048 * b.val + t.val) * 384 + (64 * h.val + d.val)) / 384 % 2048 = t.val by omega)
  · exact Fin.ext (show ((2048 * b.val + t.val) * 384 + (64 * h.val + d.val)) / 64 % 6 = h.val by omega)
  · exact Fin.ext (show ((2048 * b.val + t.val) * 384 + (64 * h.val + d.val)) % 64 = d.val by omega)

section
variable (h0 : ∀ i, x0 i = ((Q i : ℝ) : EReal)) (h1 : ∀ i, x1 i = ((K i : ℝ) : EReal)) (h3 : ∀ i, x3 i = ((B i : ℝ) : EReal))
include h0 h1 h3

theorem ref_score (b : Fin 8) (h : Fin 6) (t s : Fin 2048) :
    val_main_v8 (F := Ideal) x0 x1 x3 (ix4 b h t s) = ((score Q K B b h t s.val : ℝ) : EReal) := by
  have e : (⟨s.val % 2048, Nat.mod_lt _ (by norm_num)⟩ : Fin 2048) = s := Fin.ext (Nat.mod_eq_of_lt s.isLt)
  rw [val_main_v8_apply, val_main_v5_apply, val_main_v3_apply, val_main_v4_apply, val_main_cst_apply, val_main_v7_apply,
    val_main_v6_apply, h3]
  have hs : (∑ k : Fin 64, (val_main_v0 (F := Ideal) x0) (lidx_main_v3 (ix4 b h t s) k) * (val_main_v1 (F := Ideal) x1) (ridx_main_v3 (ix4 b h t s) k) : EReal)
      = ((∑ d : Fin 64, Q (ix2 (row b t) (col h d)) * K (ix2 (row b s) (col h d)) : ℝ) : EReal) := by
    rw [← coe_sum]
    refine Finset.sum_congr rfl fun k _ => ?_
    rw [val_main_v0_apply, val_main_v1_apply, h0, h1, EReal.coe_mul]
    have el : lidx_main_v3 (ix4 b h t s) k = ix4 b t h k := by funext a; fin_cases a <;> rfl
    have er : ridx_main_v3 (ix4 b h t s) k = ix4 b s h k := by funext a; fin_cases a <;> rfl
    rw [el, er, idx_split, show idx_main_v1 (ix4 b s h k) = ix2 (row b s) (col h k) from idx_split b s h k]
  rw [hs]
  show ((_ : ℝ) : EReal) * Ideal.ofBits .f32 0x3E000000#32 + ((B _ : ℝ) : EReal) = _
  rw [eighth, ← EReal.coe_mul, ← EReal.coe_add,
    show idx_main_v6 (idx_main_v7 (ix4 b h t s)) = ix1 h from by funext a; fin_cases a; rfl]
  unfold score
  rw [e]

/-- The first log-sigmoid: the logarithm of what position `s` leaves of the stick. -/
theorem ref_left (b : Fin 8) (h : Fin 6) (t s : Fin 2048) :
    val_main_v17 (F := Ideal) x0 x1 x3 (ix4 b h t s) = ((-sp (score Q K B b h t s.val) : ℝ) : EReal) := by
  simp only [val_main_v17_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_call0_cst_apply, val_main_call0_v0_apply,
    val_main_v16_apply, ref_score x0 x1 x3 Q K B h0 h1 h3, Ideal.addf_def, Ideal.subf_def, Ideal.hostNegf_def, Ideal.negf_def, Ideal.hostAbsf_def, Ideal.absf_def,
    Ideal.maximumf_def, Ideal.hostUnary_exp_def, Ideal.hostUnary_log1p_def, Ideal.ofBits_def, Ideal.ofBits_zero_f32]
  rw [EReal.coe_neg, ← host_sp]
  simp only [neg_neg]
  rfl

/-- The second log-sigmoid: the logarithm of what position `s` breaks off. -/
theorem ref_broken (b : Fin 8) (h : Fin 6) (t s : Fin 2048) :
    val_main_v21 (F := Ideal) x0 x1 x3 (ix4 b h t s) = ((-sp (-(score Q K B b h t s.val)) : ℝ) : EReal) := by
  simp only [val_main_v21_apply, val_main_call3_v1_apply, val_main_call3_call0_v11_apply, val_main_call3_call0_v10_apply,
    val_main_call3_call0_v9_apply, val_main_call3_call0_v8_apply, val_main_call3_call0_v7_apply, val_main_call3_call0_v6_apply,
    val_main_call3_call0_v5_apply, val_main_call3_call0_v4_apply, val_main_call3_call0_v3_apply, val_main_call3_call0_v2_apply,
    val_main_call3_call0_v1_apply, val_main_call3_call0_v0_apply, val_main_call3_call0_cst_apply, val_main_call3_v0_apply,
    ref_score x0 x1 x3 Q K B h0 h1 h3, Ideal.addf_def, Ideal.subf_def, Ideal.hostNegf_def, Ideal.negf_def, Ideal.hostAbsf_def, Ideal.absf_def,
    Ideal.maximumf_def, Ideal.hostUnary_exp_def, Ideal.hostUnary_log1p_def, Ideal.ofBits_def, Ideal.ofBits_zero_f32]
  rw [EReal.coe_neg, ← host_sp, EReal.coe_neg]
  rfl

omit h0 h1 h3 in
/-- The mask: whether the key comes before the query. -/
theorem ref_mask (t s : Fin 2048) : val_main_v15 (F := Ideal) (ix2 t s) = 1#1 ↔ s.val < t.val := by
  have ht := t.isLt
  have hs := s.isLt
  rw [val_main_v15_apply, val_main_v13_apply, val_main_v10_apply, val_main_v9_apply, val_main_v14_apply, val_main_v12_apply,
    val_main_v11_apply]
  exact cmpi_slt_ofNat_eq_one_iff (w := 32) (a := s.val) (b := t.val) (by norm_num; omega) (by norm_num; omega)

theorem ref_masked (b : Fin 8) (h : Fin 6) (t s : Fin 2048) : val_main_v18 (F := Ideal) x0 x1 x3 (ix4 b h t s)
    = (((if s.val < t.val then -sp (score Q K B b h t s.val) else 0) : ℝ) : EReal) := by
  rw [val_main_v18_apply, val_main_call1_v1_apply, val_main_call1_v2_apply, val_main_call1_v0_apply, val_main_cst_0_apply,
    ref_left x0 x1 x3 Q K B h0 h1 h3, ← coe_ite, show idx_main_call1_v1 (ix4 b h t s) = ix2 t s from by funext a; fin_cases a <;> rfl]
  unfold Scalar.select
  by_cases hh : s.val < t.val
  · rw [if_pos hh]; exact if_pos ((ref_mask t s).2 hh)
  · rw [if_neg hh]; exact (if_neg fun h' => hh ((ref_mask t s).1 h')).trans Ideal.ofBits_zero_f32

/-- The exclusive cumulative sum, at a key which comes before the query. -/
theorem ref_after (b : Fin 8) (h : Fin 6) (t s : Fin 2048) (hst : s.val < t.val) :
    val_main_v20 (F := Ideal) x0 x1 x3 (ix4 b h t s)
      = ((∑ e ∈ Finset.Ico (s.val + 1) t.val, -sp (score Q K B b h t e) : ℝ) : EReal) := by
  have ht := t.isLt
  have h19 : val_main_v19 (F := Ideal) x0 x1 x3 (ix4 b h t s)
      = ((∑ e ∈ Finset.Ico s.val t.val, -sp (score Q K B b h t e) : ℝ) : EReal) := by
    have h1' : val_main_v19 (F := Ideal) x0 x1 x3 (ix4 b h t s)
        = ∑ n : Fin 2048, if hn : s.val + n.val < 2048 then val_main_v18 (F := Ideal) x0 x1 x3 (ix4 b h t ⟨s.val + n.val, hn⟩) else 0 := by
      have hz : val_main_call2_v0 (F := Ideal) (Shape.Idx.first Gen.h_S_) = 0 := by
        rw [val_main_call2_v0_apply, val_main_call2_cst_apply]; exact Ideal.ofBits_zero_f32
      unfold val_main_v19 Host.reduceWindowAdd
      generalize val_main_v18 (F := Ideal) x0 x1 x3 = y
      rw [hz]
      exact (suffix_sum (A := 8) (B := 6) (C := 2048) (N := 2048) (P := 2047) rfl y Gen.reduceWindows_S8x6x2048x2048_S8x6x2048x2048_w1s1p0_0_w1s1p0_0_w1s1p0_0_w2048s1p0_2047 b h t s)
    rw [h1']
    have hp := sum_part (N := 2048) (fun e => -sp (score Q K B b h t e)) s.val 0 (t.val - s.val) (by omega)
    rw [Nat.add_zero, Nat.add_sub_cancel' hst.le] at hp
    rw [← hp, ← coe_sum]
    refine Finset.sum_congr rfl fun n _ => ?_
    by_cases hn : s.val + n.val < 2048
    · rw [dif_pos hn, ref_masked x0 x1 x3 Q K B h0 h1 h3]
      by_cases hh : s.val + n.val < t.val
      · rw [if_pos hh, if_pos ⟨Nat.zero_le _, by omega⟩]
      · rw [if_neg hh, if_neg (by omega)]
    · rw [dif_neg hn, if_neg (by omega), EReal.coe_zero]
  rw [val_main_v20_apply, h19, ref_masked x0 x1 x3 Q K B h0 h1 h3, if_pos hst, Ideal.subf_def, ← EReal.coe_sub,
    Finset.sum_eq_sum_Ico_succ_bot hst, add_sub_cancel_left]

theorem ref_weight (b : Fin 8) (h : Fin 6) (t s : Fin 2048) : val_main_v24 (F := Ideal) x0 x1 x3 (ix4 b h t s)
    = (((if s.val < t.val then weight (score Q K B b h t) t.val s.val else 0) : ℝ) : EReal) := by
  rw [val_main_v24_apply, val_main_call4_v1_apply, val_main_call4_v2_apply, val_main_call4_v0_apply, val_main_cst_1_apply,
    ← coe_ite, show idx_main_call4_v1 (ix4 b h t s) = ix2 t s from by funext a; fin_cases a <;> rfl]
  unfold Scalar.select
  by_cases hh : s.val < t.val
  · rw [if_pos hh]
    refine (if_pos ((ref_mask t s).2 hh)).trans ?_
    rw [val_main_v23_apply, val_main_v22_apply, ref_broken x0 x1 x3 Q K B h0 h1 h3, ref_after x0 x1 x3 Q K B h0 h1 h3 b h t s hh,
      Ideal.addf_def, Ideal.hostUnary_exp_def, ← EReal.coe_add, Ideal.exp_coe]
    rfl
  · rw [if_neg hh]; exact (if_neg fun h' => hh ((ref_mask t s).1 h')).trans Ideal.ofBits_zero_f32

variable (h2 : ∀ i, x2 i = ((V i : ℝ) : EReal))
include h2

/-- The reference's output. -/
theorem ref_result (b : Fin 8) (t : Fin 2048) (h : Fin 6) (d : Fin 64) :
    val_main_v27 (F := Ideal) x0 x1 x2 x3 (ix2 (row b t) (col h d)) = ((result Q K V B b t h d : ℝ) : EReal) := by
  have hp := sum_part (N := 2048) (fun s => weight (score Q K B b h t) t.val s * entry V b h d s) 0 0 t.val t.isLt.le
  rw [Nat.add_zero, Nat.zero_add] at hp
  unfold result
  rw [← hp, ← coe_sum, val_main_v27_apply, idx_join, val_main_v26_apply,
    show idx_main_v26 (ix4 b t h d) = ix4 b h d t from by funext a; fin_cases a <;> rfl, val_main_v25_apply]
  refine Finset.sum_congr rfl fun s _ => ?_
  rw [show lidx_main_v25 (ix4 b h d t) s = ix4 b s h d from by funext a; fin_cases a <;> rfl,
    show ridx_main_v25 (ix4 b h d t) s = ix4 b h t s from by funext a; fin_cases a <;> rfl,
    ref_weight x0 x1 x3 Q K B h0 h1 h3, val_main_v2_apply, h2,
    show idx_main_v2 (ix4 b s h d) = ix2 (row b s) (col h d) from idx_split b s h d, ← EReal.coe_mul]
  congr 1
  have e : (⟨s.val % 2048, Nat.mod_lt _ (by norm_num)⟩ : Fin 2048) = s := Fin.ext (Nat.mod_eq_of_lt s.isLt)
  rw [Nat.zero_add]
  unfold entry
  rw [e]
  by_cases hh : s.val < t.val
  · rw [if_pos hh, if_pos ⟨Nat.zero_le _, hh⟩, mul_comm]
  · rw [if_neg hh, if_neg (by omega), mul_zero]
end
end

end Cert.Proof.Attn

end
-- ==== Proof.AttnValue.lean ====
module

public import proofs.«01_k».proof.Proof.AttnFrame
public import proofs.«01_k».proof.Proof.AttnRef

@[expose] public section

set_option maxRecDepth 16384

noncomputable section

open Idealize.ShloMosaic Idealize.ShloMosaic.TcCoe Idealize.SL.Sem

namespace Cert.Proof.Attn

open Cert.KernelIdeal Cert.KernelIdeal.Gen Cert.KernelIdeal.Attn Idealize.ShloMosaic.WordCmp

variable (m : (ℓ : Loc nD τ sig) → Buf (Elt Ideal) ℓ)

/-- The batch and the block of queries of each grid point. -/
theorem idx : ∀ t : Fin cfg0.N, win0_0.index t = ![0] ∧ win0_1.index t = ![t.val, 0] ∧ win0_2.index t = ![t.val / 8, 0]
    ∧ win0_3.index t = ![t.val / 8, 0] ∧ win0_4.index t = ![0, 0] ∧ win0_5.index t = ![t.val, 0]
    ∧ (grid0.coords t 1).val = t.val % 8 :=
  (by decide +kernel : ∀ t : Fin grid0.N, _)

theorem place (t : Fin cfg0.N) (y : S256x384.Idx) : (win0_5.blk t).view.emb y
    = ix2 ⟨256 * t.val + (y 0).val, by have : t.val < 64 := t.isLt; have : (y 0).val < 256 := (y 0).isLt; omega⟩ (y 1) := by
  blk_ext [idx t]

theorem bias_at (c : Dev nD) (t : Fin cfg0.N) (h : Fin 6) : iblk m c 0 t (ix1 h) = m ((c.tc : Thread nD τ).loc main_arg3) (ix1 h) := by
  blk_point [iblk, V, idx t]
theorem query_at (c : Dev nD) (t : Fin cfg0.N) (r : Fin 256) (j : Fin 384) : iblk m c 1 t (ix2 r j)
    = m ((c.tc : Thread nD τ).loc main_arg0) (ix2 ⟨256 * t.val + r.val, by have : t.val < 64 := t.isLt; omega⟩ j) := by
  blk_point [iblk, V, idx t]
theorem key_at (c : Dev nD) (t : Fin cfg0.N) (r : Fin 2048) (j : Fin 384) : iblk m c 2 t (ix2 r j)
    = m ((c.tc : Thread nD τ).loc main_arg1) (ix2 ⟨2048 * (t.val / 8) + r.val, by have : t.val < 64 := t.isLt; omega⟩ j) := by
  blk_point [iblk, V, idx t]
theorem value_at (c : Dev nD) (t : Fin cfg0.N) (r : Fin 2048) (j : Fin 384) : iblk m c 3 t (ix2 r j)
    = m ((c.tc : Thread nD τ).loc main_arg2) (ix2 ⟨2048 * (t.val / 8) + r.val, by have : t.val < 64 := t.isLt; omega⟩ j) := by
  blk_point [iblk, V, idx t]
theorem later_at (c : Dev nD) (t : Fin cfg0.N) (e x : Fin 256) : iblk m c 4 t (ix2 e x)
    = (((if x.val < e.val then 1 else 0) : ℝ) : EReal) := by
  have h : iblk m c 4 t (ix2 e x) = V m c main_v6 (ix2 e x) := by
    blk_point [iblk, idx t]
  rw [h]
  have he := e.isLt
  have hx := x.isLt
  have key := cmpi_sgt_ofNat_eq_one_iff (w := 32) (a := e.val) (b := x.val) (by norm_num; omega) (by norm_num; omega)
  have h6 : V m c main_v6 (ix2 e x)
      = (((IntOp.cmpi .sgt (BitVec.ofNat 32 e.val) (BitVec.ofNat 32 x.val)).toNat : ℝ) : EReal) := by
    blk_simp [V, hostOps0]
    after_results
    rfl
  rw [h6]
  by_cases hh : x.val < e.val
  · rw [if_pos hh, key.2 hh]; norm_num
  · rw [if_neg hh, (cmpi_sgt_ofNat_eq_zero_iff (w := 32) (a := e.val) (b := x.val) (by norm_num; omega) (by norm_num; omega)).2 (by omega)]; norm_num

/-- A score of a tile, from the entries that it reads. -/
theorem nT_eq (x0 : Vec Ideal S6 .f32) (x1 : Vec Ideal S256x384 .f32) (x2 : Vec Ideal S2048x384 .f32) (h : Fin 6)
    (r : Fin 256) (tt : Fin 8) (x : Fin 256) (q k : Fin 64 → ℝ) (β : ℝ) (hb : x0 (ix1 h) = ((β : ℝ) : EReal))
    (hq : ∀ d, x1 (ix2 r (col h d)) = ((q d : ℝ) : EReal))
    (hk : ∀ d, x2 (ix2 ⟨256 * tt.val + x.val, by have := tt.isLt; have := x.isLt; omega⟩ (col h d)) = ((k d : ℝ) : EReal)) :
    nT x0 x1 x2 tt h (ix2 r x) = ((-((∑ d : Fin 64, q d * k d) * (1 / 8) + β) * L : ℝ) : EReal) := by
  show (∑ d : Fin 64, (x1 (ix2 r (col h d)) : EReal) * κq * x2 (ix2 ⟨256 * tt.val + x.val, _⟩ (col h d)))
    - (x0 (ix1 h) : EReal) * κl = _
  have hs : (∑ d : Fin 64, (x1 (ix2 r (col h d)) : EReal) * κq
        * x2 (ix2 ⟨256 * tt.val + x.val, by have := tt.isLt; have := x.isLt; omega⟩ (col h d)))
      = (((∑ d : Fin 64, q d * k d) * (-((1 / 8) * L)) : ℝ) : EReal) := by
    rw [Finset.sum_mul, ← coe_sum]
    refine Finset.sum_congr rfl fun d _ => ?_
    rw [hq, hk, κq_eq, ← EReal.coe_mul, ← EReal.coe_mul]
    congr 1
    ring
  rw [hs, hb, κl_eq, ← EReal.coe_mul, ← EReal.coe_sub]
  congr 1
  ring

section
variable (c : Dev nD) (Q K W : S16384x384.Idx → ℝ) (B : S6.Idx → ℝ)
  (h0 : ∀ i, m ((c.tc : Thread nD τ).loc main_arg0) i = ((Q i : ℝ) : EReal))
  (h1 : ∀ i, m ((c.tc : Thread nD τ).loc main_arg1) i = ((K i : ℝ) : EReal))
  (h2 : ∀ i, m ((c.tc : Thread nD τ).loc main_arg2) i = ((W i : ℝ) : EReal))
  (h3 : ∀ i, m ((c.tc : Thread nD τ).loc main_arg3) i = ((B i : ℝ) : EReal))

/-- The batch of a grid point. -/
def batch (t : Fin cfg0.N) : Fin 8 := ⟨t.val / 8, by have : t.val < 64 := t.isLt; omega⟩
/-- The position, in its batch, of row `r` of a grid point's block of queries. -/
def pos (t : Fin cfg0.N) (r : Fin 256) : Fin 2048 := ⟨256 * (t.val % 8) + r.val, by omega⟩

include h0 h1 h3 in
/-- The kernel's scores: minus the reference's, in base 2. -/
theorem scores_at (t : Fin cfg0.N) (r : Fin 256) (h : Fin 6) (tt : Fin 8) (x : Fin 256) :
    nT (iblk m c 0 t) (iblk m c 1 t) (iblk m c 2 t) tt h (ix2 r x)
      = ((-(score Q K B (batch t) h (pos t r)) (256 * tt.val + x.val) * L : ℝ) : EReal) := by
  have htt := tt.isLt
  have hx := x.isLt
  have ht : t.val < 64 := t.isLt
  refine nT_eq _ _ _ h r tt x (fun d => Q (ix2 (row (batch t) (pos t r)) (col h d)))
    (fun d => K (ix2 (row (batch t) ⟨(256 * tt.val + x.val) % 2048, Nat.mod_lt _ (by norm_num)⟩) (col h d))) (B (ix1 h))
    ((bias_at m c t h).trans (h3 _)) (fun d => (query_at m c t r (col h d)).trans ?_)
    (fun d => (key_at m c t ⟨256 * tt.val + x.val, by omega⟩ (col h d)).trans ?_)
  · rw [h0]
    congr 3
    exact Fin.ext (show 256 * t.val + r.val = 2048 * (t.val / 8) + (256 * (t.val % 8) + r.val) by omega)
  · rw [h1]
    congr 3
    exact Fin.ext (show 2048 * (t.val / 8) + (256 * tt.val + x.val) = 2048 * (t.val / 8) + (256 * tt.val + x.val) % 2048 by omega)

include h0 h1 h2 h3 in
/-- What a grid point leaves of its output block is what the reference has there. -/
theorem block_eq (t : Fin cfg0.N) (r : Fin 256) (h : Fin 6) (d : Fin 64) :
    outs (iblk m c 0 t) (iblk m c 1 t) (iblk m c 2 t) (iblk m c 3 t) (iblk m c 4 t) (qi (grid0.coords t))
        (qi (grid0.coords t)).val (ix2 r (col h d))
      = ((result Q K W B (batch t) (pos t r) h d : ℝ) : EReal) := by
  have ht : t.val < 64 := t.isLt
  have hq : (qi (grid0.coords t)).val = t.val % 8 := (idx t).2.2.2.2.2.2
  refine (outs_eq _ _ _ _ _ h r d (score Q K B (batch t) h (pos t r)) (entry W (batch t) h d) _
    (scores_at m c Q K B h0 h1 h3 t r h) (later_at m c t) (fun tt x => ?_) _ le_rfl).trans ?_
  · have htt := tt.isLt
    have hx := x.isLt
    refine (value_at m c t ⟨256 * tt.val + x.val, by omega⟩ (col h d)).trans ?_
    rw [h2]
    unfold entry
    congr 3
    exact Fin.ext (show 2048 * (t.val / 8) + (256 * tt.val + x.val) = 2048 * (t.val / 8) + (256 * tt.val + x.val) % 2048 by omega)
  · rw [hq, Nat.sub_self, Nat.mul_zero]
    rfl

include h0 h1 h2 h3 in
/-- The attention: the kernel's output array is the reference's. -/
theorem final : (dats m 0 c).arrAt 5 cfg0.N
    = Cert.ReferenceIdeal.Read.val_main_v27 (F := Ideal) (m ((c.tc : Thread nD τ).loc main_arg0))
        (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  change S256x384.Idx at y
  have ht : t.val < 64 := t.isLt
  have hy0 : (y 0).val < 256 := (y 0).isLt
  have hy1 : (y 1).val < 384 := (y 1).isLt
  let h : Fin 6 := ⟨(y 1).val / 64, by omega⟩
  let d : Fin 64 := ⟨(y 1).val % 64, by omega⟩
  have e1 : (y 1 : Fin 384) = col h d := Fin.ext (show (y 1).val = 64 * ((y 1).val / 64) + (y 1).val % 64 by omega)
  have ey : y = ix2 (y 0 : Fin 256) (col h d) := by
    rw [← e1]; funext a; fin_cases a <;> rfl
  have ep : (win0_5.blk t).view.emb y = ix2 (row (batch t) (pos t (y 0))) (col h d) := by
    rw [place, e1]
    congr 1
    exact Fin.ext (show 256 * t.val + (y 0).val = 2048 * (t.val / 8) + (256 * (t.val % 8) + (y 0).val) by omega)
  refine Eq.trans ?_ (Eq.trans (ref_result _ _ _ _ Q K W B h0 h1 h3 h2 (batch t) (pos t (y 0)) h d).symm (congrArg _ ep.symm))
  refine Eq.trans (congrArg _ ey) (block_eq m c Q K W B h0 h1 h2 h3 t (y 0) h d)
end

end Cert.Proof.Attn

end
-- ==== Proof.AttnFinite.lean ====
module

public import proofs.«01_k».proof.Defs
public import Idealize.ShloMosaic.Lib.ReduceAll
public import Idealize.ShloMosaic.PureOps.Ideal.Laws

@[expose] public section

noncomputable section

open Idealize.ShloMosaic

namespace Cert.Proof.Attn

open Cert.Pre_finite

/-! # The precondition: every entry of the arguments is a real number -/

theorem infinity : (Ideal.ofBits .f32 0x7F800000#32 : EReal) = ⊤ := by simp [Ideal.ofBits, Ideal.ieee]

theorem real_of_below (x : EReal) (h : Ideal.cmp .olt (max x (-x)) (Ideal.ofBits .f32 0x7F800000#32) = 1#1) :
    x = ((x.toReal : ℝ) : EReal) := by
  have hlt : max x (-x) < ⊤ := by
    rw [infinity] at h
    by_contra hn
    simp [Ideal.cmp, hn] at h
  refine (EReal.coe_toReal (fun e => ?_) (fun e => ?_)).symm
  · rw [e] at hlt; simp at hlt
  · rw [e] at hlt; simp at hlt

theorem andi_parts {a b : BitVec 1} (h : IntOp.andi a b = 1#1) : a = 1#1 ∧ b = 1#1 := by
  revert a b; decide

/-- If the precondition's function is one, every entry of each argument is a real number. -/
theorem finite_entries [Facts] (x0 x1 x2 : FVec Ideal S16384x384 .f32) (x3 : FVec Ideal S6 .f32)
    (h : fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have h' := congrFun h (fun a => a.elim0)
  unfold fn fn_part1 at h'
  obtain ⟨h012, h3⟩ := andi_parts h'
  obtain ⟨h01, h2⟩ := andi_parts h012
  obtain ⟨h0, h1⟩ := andi_parts h01
  haveI : Subsingleton S_.Idx := ⟨fun a b => funext fun i => i.elim0⟩
  exact ⟨fun i => real_of_below _ (Host.reduce_andi_all _ _ _ _ _ h0 i), fun i => real_of_below _ (Host.reduce_andi_all _ _ _ _ _ h1 i),
    fun i => real_of_below _ (Host.reduce_andi_all _ _ _ _ _ h2 i), fun i => real_of_below _ (Host.reduce_andi_all _ _ _ _ _ h3 i)⟩

end Cert.Proof.Attn

end
-- ==== Proof.AttnClaim.lean ====
module

public import proofs.«01_k».proof.Proof.AttnValue
public import proofs.«01_k».proof.Proof.AttnFinite
public import proofs.«01_k».proof.Proof.Frames

@[expose] public section

set_option maxRecDepth 16384

noncomputable section

open Idealize.ShloMosaic Idealize.ShloMosaic.TcCoe Idealize.SL.Sem

namespace Cert.Proof.Attn

open Cert.ReferenceIdeal.Read

/-- The attention: from equal arguments, every entry of which is a real number, kernel and reference end with the same
    array. -/
theorem algebraic : Cert.algebraic_KernelIdeal_ReferenceIdeal_pre_finite (hPre_finite := finite_facts) := fun m g m' g' hp hA => by
  haveI := finite_facts
  refine ⟨fun c => (Cert.KernelIdeal.Attn.dats m 0 c).arrAt 5 Cert.KernelIdeal.cfg0.N, Cert.KernelIdeal.Attn.run_blocks m g, ?_⟩
  refine (θ_run Cert.ReferenceIdeal.defs _ _).mono (fun r h c => ?_) (Cert.ReferenceIdeal.Value.run m' g')
  obtain ⟨h27, ha⟩ := h c
  obtain ⟨e0, e1, e2, e3⟩ := hA c
  refine ⟨?_, ha⟩
  obtain ⟨f0, f1, f2, f3⟩ := finite_entries _ _ _ _ (hp c)
  refine h27.trans ((val_main_v27_eq _ _).trans ?_)
  rw [e0, e1, e2, e3]
  exact (final m c _ _ _ _ f0 f1 f2 f3).symm

end Cert.Proof.Attn

end
-- ==== Proof.InProj.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.ValueIdx Idealize.SL.Sem

namespace Cert.Proof.InProj

open Cert.Kernel3Ideal Cert.Kernel3Ideal.Gen Cert.Reference3Ideal.Read

variable (m : (ℓ : Loc nD τ sig) → Buf (Elt Ideal) ℓ)

/-- The block of each window at grid point `t`: row tile `t` of the input and of the five outputs, the whole weights and gain. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The five output arrays after the run are the reference's five results. -/
theorem final3 (c : Dev nD) : (dats m 0 c).arrAt 3 cfg0.N
    = val_main_v14 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay3, k0_pay2]
  blk_point [iblk, V, idx t]

theorem final4 (c : Dev nD) : (dats m 0 c).arrAt 4 cfg0.N
    = val_main_v15 (F := Ideal) (m ((c.tc : Thread nD τ).loc main_arg0))
        (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  unfold val_main_v15 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay4, k0_pay2]
  blk_point [iblk, V, idx t]

theorem final5 (c : Dev nD) : (dats m 0 c).arrAt 5 cfg0.N
    = val_main_v17 (F := Ideal) (m ((c.tc : Thread nD τ).loc main_arg0))
        (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  unfold val_main_v17 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay5, k0_pay2]
  blk_point [iblk, V, idx t]

theorem final6 (c : Dev nD) : (dats m 0 c).arrAt 6 cfg0.N
    = val_main_v18 (F := Ideal) (m ((c.tc : Thread nD τ).loc main_arg0))
        (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  unfold val_main_v18 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay6, k0_pay2]
  blk_point [iblk, V, idx t]

theorem final7 (c : Dev nD) : (dats m 0 c).arrAt 7 cfg0.N
    = val_main_v19 (F := Ideal) (m ((c.tc : Thread nD τ).loc main_arg0))
        (m ((c.tc : Thread nD τ).loc main_arg1)) (m ((c.tc : Thread nD τ).loc main_arg2)) := by
  refine (dats m 0 c).arrAt_eq_of_covers 7 _ (by decide +kernel) fun t hf y => ?_
  blk_simp
  rw [after0_7]
  frame_out
  unfold val_main_v19 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay1, k0_pay2]
  blk_point [iblk, V, idx t]

end Cert.Proof.InProj

end
-- ==== Proof.InProjClaim.lean ====
module

public import proofs.«01_k».proof.Defs
public import proofs.«01_k».proof.Proof.InProj

@[expose] public section

set_option maxRecDepth 16384

noncomputable section

open Idealize.ShloMosaic Idealize.ShloMosaic.TcCoe Idealize.SL.Sem

namespace Cert.Proof.InProj

open Cert.Reference3Ideal.Read

/-- The input projection: from equal arguments, kernel and reference end with the same five arrays. -/
theorem algebraic : Cert.algebraic_Kernel3Ideal_Reference3Ideal := fun m g m' g' _ hA => by
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    Cert.Kernel3Ideal.Value.run_blocks m g, ?_⟩
  refine (θ_run Cert.Reference3Ideal.defs _ _).mono (fun r h c => ?_) (Cert.Reference3Ideal.Value.run m' g')
  obtain ⟨h14, h15, h17, h18, h19, ha⟩ := h c
  obtain ⟨e0, e1, e2⟩ := hA c
  refine ⟨?_, ?_, ?_, ?_, ?_, ha⟩
  · refine h14.trans ((val_main_v14_eq _ _ _).trans ?_)
    rw [e0, e1, e2]; exact (final3 m c).symm
  · refine h15.trans ((val_main_v15_eq _ _ _).trans ?_)
    rw [e0, e1, e2]; exact (final4 m c).symm
  · refine h17.trans ((val_main_v17_eq _ _ _).trans ?_)
    rw [e0, e1, e2]; exact (final5 m c).symm
  · refine h18.trans ((val_main_v18_eq _ _ _).trans ?_)
    rw [e0, e1, e2]; exact (final6 m c).symm
  · refine h19.trans ((val_main_v19_eq _ _ _).trans ?_)
    rw [e0, e1, e2]; exact (final7 m c).symm

end Cert.Proof.InProj

end
-- ==== Proof.OutFfnBlocks.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.OutFfn

open Cert.Kernel2Ideal Cert.Kernel2Ideal.Gen Cert.Reference2Ideal.Read

variable (m : (ℓ : Loc nD τ sig) → Buf (Elt Ideal) ℓ)

/-- The block of each window at a grid point: `t / 4` is the row tile, `t % 4` the tile of the hidden width. -/
theorem idx : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![0, 0]
    ∧ win0_5.index t = ![0, t.val % 4] ∧ win0_6.index t = ![t.val % 4, 0] ∧ win0_7.index t = ![0, 0]
    ∧ win0_8.index t = ![t.val / 4, 0] :=
  (by decide +kernel : ∀ t : Fin grid0.N, _)

/-- Row `r` of a point's row tile, as a row of the whole array. -/
def row (t : Fin cfg0.N) (r : Fin 512) : Fin 16384 :=
  ⟨t.val / 4 * 512 + r.val, by have := t.isLt; have := r.isLt; have : cfg0.N = 128 := rfl; omega⟩

/-- Unit `k` of a point's hidden tile, as a hidden unit of the whole layer. -/
def tile (t : Fin cfg0.N) (k : Fin 1024) : Fin 4096 :=
  ⟨t.val % 4 * 1024 + k.val, by have := k.isLt; omega⟩

/-- What each input block holds at a point, as entries of the argument it is cut from. -/
theorem blk0 (c : Dev nD) (t : Fin cfg0.N) (r : Fin 512) (k : Fin 1024) :
    (iblk m c 0 t (ix2 r k) : EReal) = m ((c.tc : Thread nD τ).loc main_arg0) (ix2 (row t r) k) := by
  blk_point [iblk, V, idx t, row]

theorem blk1 (c : Dev nD) (t : Fin cfg0.N) (r : Fin 512) (k : Fin 256) :
    (iblk m c 1 t (ix2 r k) : EReal) = m ((c.tc : Thread nD τ).loc main_arg1) (ix2 (row t r) k) := by
  blk_point [iblk, V, idx t, row]

theorem blk2 (c : Dev nD) (t : Fin cfg0.N) (r : Fin 512) (k : Fin 384) :
    (iblk m c 2 t (ix2 r k) : EReal) = m ((c.tc : Thread nD τ).loc main_arg2) (ix2 (row t r) k) := by
  blk_point [iblk, V, idx t, row]

theorem blk3 (c : Dev nD) (t : Fin cfg0.N) (r : Fin 512) (k : Fin 384) :
    (iblk m c 3 t (ix2 r k) : EReal) = m ((c.tc : Thread nD τ).loc main_arg3) (ix2 (row t r) k) := by
  blk_point [iblk, V, idx t, row]

/-- The weights as the kernel gets them: the arguments, as a cast is the identity over the extended reals. -/
theorem host4 (c : Dev nD) (i) :
    (V m c main_v4 i : EReal) = m ((c.tc : Thread nD τ).loc main_arg4) i := by
  blk_simp [V, hostOps0]
  after_results
  rfl

theorem host5 (c : Dev nD) (i) :
    (V m c main_v5 i : EReal) = m ((c.tc : Thread nD τ).loc main_arg5) i := by
  blk_simp [V, hostOps0]
  after_results
  rfl

theorem host6 (c : Dev nD) (i) :
    (V m c main_v6 i : EReal) = m ((c.tc : Thread nD τ).loc main_arg6) i := by
  blk_simp [V, hostOps0]
  after_results
  rfl

/-- The output projection's rows for each mixer. -/
theorem blk4_0 (c : Dev nD) (t : Fin cfg0.N) (r : Fin 256) (k : Fin 1024) :
    (View.ld (iblk m c 4 t) (Rect.unit ![0, 0] ![256, 1024] inb_S1024x1024_S256x1024_0_0) (ix2 r k) : EReal)
      = m ((c.tc : Thread nD τ).loc main_arg4) (ix2 ⟨0 + r.val, by omega⟩ k) := by
  refine Eq.trans ?_ (host4 m c _)
  pointwise []
  blk_point [iblk, idx t]

theorem blk4_256 (c : Dev nD) (t : Fin cfg0.N) (r : Fin 384) (k : Fin 1024) :
    (View.ld (iblk m c 4 t) (Rect.unit ![256, 0] ![384, 1024] inb_S1024x1024_S384x1024_256_0) (ix2 r k) : EReal)
      = m ((c.tc : Thread nD τ).loc main_arg4) (ix2 ⟨256 + r.val, by omega⟩ k) := by
  refine Eq.trans ?_ (host4 m c _)
  pointwise []
  blk_point [iblk, idx t]

theorem blk4_640 (c : Dev nD) (t : Fin cfg0.N) (r : Fin 384) (k : Fin 1024) :
    (View.ld (iblk m c 4 t) (Rect.unit ![640, 0] ![384, 1024] inb_S1024x1024_S384x1024_640_0) (ix2 r k) : EReal)
      = m ((c.tc : Thread nD τ).loc main_arg4) (ix2 ⟨640 + r.val, by omega⟩ k) := by
  refine Eq.trans ?_ (host4 m c _)
  pointwise []
  blk_point [iblk, idx t]

/-- The hidden tile of the feed-forward weights. -/
theorem blk5 (c : Dev nD) (t : Fin cfg0.N) (r k : Fin 1024) :
    (iblk m c 5 t (ix2 r k) : EReal) = m ((c.tc : Thread nD τ).loc main_arg5) (ix2 r (tile t k)) := by
  refine Eq.trans ?_ (host5 m c _)
  blk_point [iblk, idx t, tile]

theorem blk6 (c : Dev nD) (t : Fin cfg0.N) (r k : Fin 1024) :
    (iblk m c 6 t (ix2 r k) : EReal) = m ((c.tc : Thread nD τ).loc main_arg6) (ix2 (tile t r) k) := by
  refine Eq.trans ?_ (host6 m c _)
  blk_point [iblk, idx t, tile]

/-- The three gains, stacked as one array, and read one row each. -/
theorem hgain0 (c : Dev nD) (j : Fin 1024) :
    (V m c main_v3 (ix2 0 j) : EReal) = m ((c.tc : Thread nD τ).loc main_arg7) (ix1 j) := by
  blk_simp [V, hostOps0]
  after_results
  pointwise []
  repeat first
    | rw [StableHlo.unary_result]
    | (rw [StableHlo.unary_result_ne]; rotate_left; decide)
  pointwise []

theorem bgain0 (c : Dev nD) (t : Fin cfg0.N) (j : Fin 1024) :
    (View.ld (iblk m c 7 t) (Rect.unit ![0, 0] ![1, 1024] inb_S3x1024_S1x1024_0_0) (ix2 0 j) : EReal)
      = m ((c.tc : Thread nD τ).loc main_arg7) (ix1 j) := by
  refine Eq.trans ?_ (hgain0 m c j)
  pointwise []
  blk_point [iblk, idx t]

theorem hgain1 (c : Dev nD) (j : Fin 1024) :
    (V m c main_v3 (ix2 1 j) : EReal) = m ((c.tc : Thread nD τ).loc main_arg8) (ix1 j) := by
  blk_simp [V, hostOps0]
  after_results
  pointwise []
  repeat first
    | rw [StableHlo.unary_result]
    | (rw [StableHlo.unary_result_ne]; rotate_left; decide)
  pointwise []

theorem bgain1 (c : Dev nD) (t : Fin cfg0.N) (j : Fin 1024) :
    (View.ld (iblk m c 7 t) (Rect.unit ![1, 0] ![1, 1024] inb_S3x1024_S1x1024_1_0) (ix2 0 j) : EReal)
      = m ((c.tc : Thread nD τ).loc main_arg8) (ix1 j) := by
  refine Eq.trans ?_ (hgain1 m c j)
  pointwise []
  blk_point [iblk, idx t]

theorem hgain2 (c : Dev nD) (j : Fin 1024) :
    (V m c main_v3 (ix2 2 j) : EReal) = m ((c.tc : Thread nD τ).loc main_arg9) (ix1 j) := by
  blk_simp [V, hostOps0]
  after_results
  pointwise []
  repeat first
    | rw [StableHlo.unary_result]
    | (rw [StableHlo.unary_result_ne]; rotate_left; decide)
  pointwise []

theorem bgain2 (c : Dev nD) (t : Fin cfg0.N) (j : Fin 1024) :
    (View.ld (iblk m c 7 t) (Rect.unit ![2, 0] ![1, 1024] inb_S3x1024_S1x1024_2_0) (ix2 0 j) : EReal)
      = m ((c.tc : Thread nD τ).loc main_arg9) (ix1 j) := by
  refine Eq.trans ?_ (hgain2 m c j)
  pointwise []
  blk_point [iblk, idx t]

end Cert.Proof.OutFfn

end
-- ==== Proof.OutFfn.lean ====
module

public import proofs.«01_k».proof.Proof.OutFfnBlocks
public import proofs.«01_k».proof.Proof.Gen.Reference2Ideal.Read
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem

namespace Cert.Proof.OutFfn

open Cert.Kernel2Ideal Cert.Kernel2Ideal.Gen Cert.Reference2Ideal.Read

variable (m : (ℓ : Loc nD τ sig) → Buf (Elt Ideal) ℓ)

/-- One row's RMS norm times a gain, at entry `j` of the row. -/
def rms (z : Fin 1024 → EReal) (g : EReal) (j : Fin 1024) : EReal :=
  z j * Ideal.rsqrt (Ideal.div (∑ x, z x * z x) (Ideal.ofBits FTy.f32 1149239296#32) + Ideal.ofBits FTy.f32 897988541#32) * g

section Reference

variable (x0 : (⟨S16384x1024, .f32⟩ : BufTy).Contents (Elt Ideal)) (x1 : (⟨S16384x256, .f32⟩ : BufTy).Contents (Elt Ideal))
  (x2 x3 : (⟨S16384x384, .f32⟩ : BufTy).Contents (Elt Ideal)) (x4 : (⟨S1024x1024, .f32⟩ : BufTy).Contents (Elt Ideal))
  (x5 : (⟨S1024x4096, .f32⟩ : BufTy).Contents (Elt Ideal)) (x6 : (⟨S4096x1024, .f32⟩ : BufTy).Contents (Elt Ideal))
  (x7 x8 x9 : (⟨S1024, .f32⟩ : BufTy).Contents (Elt Ideal)) (r : Fin 16384) (j : Fin 1024)

/-- The reference's output projection of the concatenated mixers, as the sum of three products. -/
theorem ref_mix : (val_main_v1 (F := Ideal) x1 x2 x3 x4 (ix2 r j) : EReal)
    = ∑ k : Fin 256, x1 (ix2 r k) * x4 (ix2 ⟨0 + k.val, by omega⟩ j) + ∑ k : Fin 384, x2 (ix2 r k) * x4 (ix2 ⟨256 + k.val, by omega⟩ j)
      + ∑ k : Fin 384, x3 (ix2 r k) * x4 (ix2 ⟨640 + k.val, by omega⟩ j) := by
  unfold val_main_v1 val_main_v0
  pointwise []
  refine (Fin.sum_univ_add (a := 640) (b := 384) _).trans (congrArg₂ (· + ·)
    ((Fin.sum_univ_add (a := 256) (b := 384) _).trans (congrArg₂ (· + ·) ?_ ?_)) ?_)
  all_goals refine Finset.sum_congr rfl fun k _ => ?_
  · simp [Fin.castAdd, Fin.castLE]
  · simp [Fin.castAdd, Fin.castLE, Fin.natAdd]
  · have h : (640 + k.val) - 256 - 384 = k.val := by omega
    have h' : ¬ (640 + k.val) - 256 < 384 := by omega
    simp [Fin.natAdd, h, h']
    exact fun h => absurd h (by omega)

/-- The reference's residual stream after the mixers. -/
theorem ref_x1 : (val_main_v15 (F := Ideal) x0 x1 x2 x3 x4 x7 (ix2 r j) : EReal)
    = x0 (ix2 r j) + rms (fun k => val_main_v1 (F := Ideal) x1 x2 x3 x4 (ix2 r k)) (x7 (ix1 j)) j := by
  unfold val_main_v15 val_main_v14 val_main_v13 val_main_v12 val_main_v11 val_main_v10 val_main_v9 val_main_v8 val_main_v7 val_main_v6 val_main_v5 val_main_v4 val_main_v3 val_main_v2 val_main_cst val_main_cst_0 val_main_cst_1
  pointwise []
  rfl

/-- The reference's normed input of the feed-forward. -/
theorem ref_f : (val_main_v28 (F := Ideal) x0 x1 x2 x3 x4 x7 x8 (ix2 r j) : EReal)
    = rms (fun k => val_main_v15 (F := Ideal) x0 x1 x2 x3 x4 x7 (ix2 r k)) (x8 (ix1 j)) j := by
  unfold val_main_v28 val_main_v27 val_main_v26 val_main_v25 val_main_v24 val_main_v23 val_main_v22 val_main_v21 val_main_v20 val_main_v19 val_main_v18 val_main_v17 val_main_v16 val_main_cst_2 val_main_cst_3 val_main_cst_4
  pointwise []
  rfl

/-- The reference's hidden layer: one unit before its ReLU. -/
def hid (r : Fin 16384) (n : Fin 4096) : EReal :=
  ∑ k : Fin 1024, val_main_v28 (F := Ideal) x0 x1 x2 x3 x4 x7 x8 (ix2 r k) * x5 (ix2 k n)

/-- The reference's feed-forward output: a sum over all hidden units. -/
theorem ref_ffn : (val_main_v32 (F := Ideal) x0 x1 x2 x3 x4 x5 x6 x7 x8 (ix2 r j) : EReal)
    = ∑ n : Fin 4096, max (hid x0 x1 x2 x3 x4 x5 x7 x8 r n) 0 * max (hid x0 x1 x2 x3 x4 x5 x7 x8 r n) 0 * x6 (ix2 n j) := by
  unfold val_main_v32 val_main_v31 val_main_v30 val_main_v29 val_main_call0_v0 val_main_call0_cst
  pointwise []
  rfl

/-- The reference's result. -/
theorem ref_out : (val_main_v46 (F := Ideal) x0 x1 x2 x3 x4 x5 x6 x7 x8 x9 (ix2 r j) : EReal)
    = val_main_v15 (F := Ideal) x0 x1 x2 x3 x4 x7 (ix2 r j)
      + rms (fun k => val_main_v32 (F := Ideal) x0 x1 x2 x3 x4 x5 x6 x7 x8 (ix2 r k)) (x9 (ix1 j)) j := by
  unfold val_main_v46 val_main_v45 val_main_v44 val_main_v43 val_main_v42 val_main_v41 val_main_v40 val_main_v39 val_main_v38 val_main_v37 val_main_v36 val_main_v35 val_main_v34 val_main_v33 val_main_cst_5 val_main_cst_6 val_main_cst_7
  pointwise []
  rfl

end Reference

/-- The residual stream after the mixers that a point of the first feed-forward tile computes: the reference's rows. -/
theorem pay_x1 (c : Dev nD) (t : Fin cfg0.N) (r : Fin 512) (j : Fin 1024) :
    ((k0_pay5 (iblk m c 1 t) (View.ld (iblk m c 4 t) (Rect.unit ![0, 0] ![256, 1024] inb_S1024x1024_S256x1024_0_0))
      (iblk m c 2 t) (View.ld (iblk m c 4 t) (Rect.unit ![256, 0] ![384, 1024] inb_S1024x1024_S384x1024_256_0))
      (iblk m c 3 t) (View.ld (iblk m c 4 t) (Rect.unit ![640, 0] ![384, 1024] inb_S1024x1024_S384x1024_640_0))
      (iblk m c 0 t) (View.ld (iblk m c 7 t) (Rect.unit ![0, 0] ![1, 1024] inb_S3x1024_S1x1024_0_0))) (ix2 r j) : EReal)
      = val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (ix2 (row t r) j) := by
  rw [ref_x1]
  simp only [ref_mix, ← blk0 m c t, ← blk1 m c t, ← blk2 m c t, ← blk3 m c t, ← blk4_0 m c t, ← blk4_256 m c t, ← blk4_640 m c t, ← bgain0 m c t]
  pointwise [k0_pay5]
  rfl

/-- The kernel's norm of the residual rows. -/
theorem pay_f (a : FVec Ideal S512x1024 .f32) (g : Vec Ideal S1x1024 .f32) (r : Fin 512) (j : Fin 1024) :
    (k0_pay1 (F := Ideal) a g (ix2 r j) : EReal) = rms (fun k => a (ix2 r k)) (g (ix2 0 j)) j := by
  pointwise [k0_pay1]
  rfl

/-- One accumulation step over a hidden tile. -/
theorem pay_acc (f : Vec Ideal S512x1024 .bf16) (u : Vec Ideal S1024x1024 .bf16) (a : Vec Ideal S512x1024 .f32)
    (d : Vec Ideal S1024x1024 .bf16) (r : Fin 512) (j : Fin 1024) :
    (k0_pay3 (F := Ideal) f u a d (ix2 r j) : EReal)
      = a (ix2 r j) + ∑ n : Fin 1024, max (∑ k : Fin 1024, (f (ix2 r k) : EReal) * u (ix2 k n)) 0
          * max (∑ k : Fin 1024, (f (ix2 r k) : EReal) * u (ix2 k n)) 0 * d (ix2 n j) := by
  pointwise [k0_pay3]

/-- What the kernel writes out: residual plus normed accumulator. -/
theorem pay_out (x a : Vec Ideal S512x1024 .f32) (g : Vec Ideal S1x1024 .f32) (r : Fin 512) (j : Fin 1024) :
    (k0_pay4 (F := Ideal) x a g (ix2 r j) : EReal) = x (ix2 r j) + rms (fun k => a (ix2 r k)) (g (ix2 0 j)) j := by
  pointwise [k0_pay4]
  rfl

/-- The reference's residual stream after the mixers, at device `c`'s arguments. -/
abbrev refX1 (c : Dev nD) : Fin 16384 → Fin 1024 → EReal := fun r j =>
  val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (ix2 r j)

/-- The reference's normed input of the feed-forward, at device `c`'s arguments. -/
abbrev refF (c : Dev nD) : Fin 16384 → Fin 1024 → EReal := fun r j =>
  val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (ix2 r j)

/-- The reference's hidden unit `n` of row `r` before its ReLU, at device `c`'s arguments. -/
abbrev refHid (c : Dev nD) : Fin 16384 → Fin 4096 → EReal :=
  hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))

/-- What one feed-forward tile adds to the accumulator, over the reference's hidden units. -/
def part (c : Dev nD) (t : Fin cfg0.N) (y : S512x1024.Idx) : EReal :=
  ∑ n : Fin 1024, max (refHid m c (row t (y 0)) (tile t n)) 0 * max (refHid m c (row t (y 0)) (tile t n)) 0
    * m ((c.tc : Thread nD τ).loc main_arg6) (ix2 (tile t n) (y 1))

/-- From the reference's normed rows, an accumulation step adds that tile's part. -/
theorem part_eq (c : Dev nD) (t : Fin cfg0.N) (f : Vec Ideal S512x1024 .bf16) (a : Vec Ideal S512x1024 .f32)
    (hf : ∀ r k, (f (ix2 r k) : EReal) = refF m c (row t r) k) (r : Fin 512) (j : Fin 1024) :
    (k0_pay3 (F := Ideal) f (iblk m c 5 t) a (iblk m c 6 t) (ix2 r j) : EReal) = a (ix2 r j) + part m c t (ix2 r j) := by
  rw [pay_acc]
  simp only [hf, blk5 m c t, blk6 m c t]
  rfl

/-- A point that starts a row tile leaves the reference's rows in the residual scratch. -/
theorem x1_A (c : Dev nD) (t : Fin cfg0.N) (h0 : t.val % 4 = 0) (r : Fin 512) (j : Fin 1024) :
    ((outsAt0 m c t.val t.isLt).2.1 (ix2 r j) : EReal) = refX1 m c (row t r) j := by
  rw [outsAt0_A m c t h0 (by omega)]
  frame_out
  exact (congrFun (shapeCast_self _ _) _).trans (pay_x1 m c t r j)

/-- … the reference's normed rows in the second scratch, -/
theorem f_A (c : Dev nD) (t : Fin cfg0.N) (h0 : t.val % 4 = 0) (r : Fin 512) (j : Fin 1024) :
    ((outsAt0 m c t.val t.isLt).2.2.1 (ix2 r j) : EReal) = refF m c (row t r) j := by
  rw [outsAt0_A m c t h0 (by omega)]
  frame_out
  rw [pay_f, bgain1 m c t, refF, ref_f]
  exact congrArg (fun z => rms z _ j) (funext fun k => pay_x1 m c t r k)

/-- … and the first tile's part in the accumulator. -/
theorem acc_A (c : Dev nD) (t : Fin cfg0.N) (h0 : t.val % 4 = 0) (r : Fin 512) (j : Fin 1024) :
    ((outsAt0 m c t.val t.isLt).2.2.2 (ix2 r j) : EReal) = 0 + part m c t (ix2 r j) := by
  rw [outsAt0_A m c t h0 (by omega)]
  frame_out
  refine (part_eq m c t _ _ (fun r k => ?_) r j).trans ?_
  · rw [pay_f, bgain1 m c t, refF, ref_f]
    exact congrArg (fun z => rms z _ k) (funext fun q => pay_x1 m c t r q)
  · pointwise [k0_pay2]

/-- Every later point of a row tile keeps the residual scratch and the normed rows, and adds its tile to the accumulator. -/
theorem step (c : Dev nD) (t : Fin cfg0.N) (h0 : ¬ t.val % 4 = 0) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2 = k0_pay3 (outsAt0 m c (t.val - 1) (Nat.lt_of_le_of_lt (Nat.sub_le _ _) t.isLt)).2.2.1
        (iblk m c 5 t) (outsAt0 m c (t.val - 1) (Nat.lt_of_le_of_lt (Nat.sub_le _ _) t.isLt)).2.2.2 (iblk m c 6 t) := by
  by_cases h1 : t.val % 4 = 3
  · rw [outsAt0_C m c t h0 h1]
    refine ⟨?_, ?_, ?_⟩
    · rfl
    · rfl
    · frame_out
      simp only [read_unread_whole]
  · rw [outsAt0_B m c t h0 h1]
    refine ⟨?_, ?_, ?_⟩
    · rfl
    · rfl
    · frame_out
      simp only [read_unread_whole]

/-- The point that ends a row tile writes out the residual stream plus the normed accumulator. -/
theorem out_C (c : Dev nD) (t : Fin cfg0.N) (h1 : t.val % 4 = 3) :
    (outsAt0 m c t.val t.isLt).1 = k0_pay4 (outsAt0 m c t.val t.isLt).2.1 (outsAt0 m c t.val t.isLt).2.2.2
      (View.ld (iblk m c 7 t) (Rect.unit ![2, 0] ![1, 1024] inb_S3x1024_S1x1024_2_0)) := by
  have h0 : ¬ t.val % 4 = 0 := by omega
  obtain ⟨e1, e2, e3⟩ := step m c t h0
  rw [e1, e3, outsAt0_C m c t h0 h1]
  frame_out
  simp only [read_unread_whole]
  rfl

/-- A scratch written at the first point of each row tile and kept after it holds that tile's rows at every point. -/
theorem held (g : (n : Nat) → n < cfg0.N → S512x1024.Idx → EReal) (R : Fin 16384 → Fin 1024 → EReal)
    (hA : ∀ t : Fin cfg0.N, t.val % 4 = 0 → ∀ r j, g t.val t.isLt (ix2 r j) = R (row t r) j)
    (hS : ∀ t : Fin cfg0.N, ¬ t.val % 4 = 0 → g t.val t.isLt = g (t.val - 1) (Nat.lt_of_le_of_lt (Nat.sub_le _ _) t.isLt))
    (t : Fin cfg0.N) (r : Fin 512) (j : Fin 1024) : g t.val t.isLt (ix2 r j) = R (row t r) j := by
  have h := congrFun (congrFun (Pipeline.eq_of_write_hold (fun n h r j => g n h (ix2 r j)) 4 (fun t r j => R (row t r) j)
    (fun t h => funext fun r => funext fun j => hA t h r j) (fun t h => by rw [hS t h]) t) r) j
  refine h.trans (congrArg (R · j) (Fin.ext ?_))
  show 4 * (t.val / 4) / 4 * 512 + r.val = t.val / 4 * 512 + r.val
  omega

/-- The residual scratch at every point. -/
theorem x1_at (c : Dev nD) (t : Fin cfg0.N) (r : Fin 512) (j : Fin 1024) :
    ((outsAt0 m c t.val t.isLt).2.1 (ix2 r j) : EReal) = refX1 m c (row t r) j :=
  held (fun n h => (outsAt0 m c n h).2.1) (refX1 m c) (x1_A m c) (fun t h => (step m c t h).1) t r j

/-- The normed rows at every point. -/
theorem f_at (c : Dev nD) (t : Fin cfg0.N) (r : Fin 512) (j : Fin 1024) :
    ((outsAt0 m c t.val t.isLt).2.2.1 (ix2 r j) : EReal) = refF m c (row t r) j :=
  held (fun n h => (outsAt0 m c n h).2.2.1) (refF m c) (f_A m c) (fun t h => (step m c t h).2.1) t r j

/-- The accumulator at a later point of a row tile. -/
theorem acc_S (c : Dev nD) (t : Fin cfg0.N) (h0 : ¬ t.val % 4 = 0) (r : Fin 512) (j : Fin 1024) :
    ((outsAt0 m c t.val t.isLt).2.2.2 (ix2 r j) : EReal)
      = (outsAt0 m c (t.val - 1) (Nat.lt_of_le_of_lt (Nat.sub_le _ _) t.isLt)).2.2.2 (ix2 r j) + part m c t (ix2 r j) := by
  obtain ⟨-, e2, e3⟩ := step m c t h0
  rw [e3, ← e2]
  exact part_eq m c t _ _ (f_at m c t) r j

/-- At the point that ends a row tile the accumulator holds the reference's feed-forward rows. -/
theorem acc_C (c : Dev nD) (t : Fin cfg0.N) (h1 : t.val % 4 = 3) (r : Fin 512) (j : Fin 1024) :
    ((outsAt0 m c t.val t.isLt).2.2.2 (ix2 r j) : EReal)
      = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 (row t r) j) := by
  have h := congrFun (congrFun (Pipeline.eq_sum_fin_of_reset_step_of_flush
    (fun n h (r : Fin 512) (j : Fin 1024) => ((outsAt0 m c n h).2.2.2 (ix2 r j) : EReal)) 4 (fun _ _ => 0) (fun t r j => part m c t (ix2 r j))
    (fun t h => funext fun r => funext fun j => acc_A m c t h r j)
    (fun t h => funext fun r => funext fun j => acc_S m c t h r j) t h1) r) j
  refine h.trans ?_
  rw [ref_ffn, Pi.add_apply, Pi.add_apply, Finset.sum_apply, Finset.sum_apply, zero_add]
  refine Fin.sum_mul_add_congr (S := 4) (n := 1024) fun s k hl => ?_
  have hr : row ⟨4 * (t.val / 4) + s.val, Pipeline.run_point_lt_of_flush t h1 s⟩ r = row t r := Fin.ext (by
    show (4 * (t.val / 4) + s.val) / 4 * 512 + r.val = t.val / 4 * 512 + r.val
    have := s.isLt; omega)
  have ht : tile ⟨4 * (t.val / 4) + s.val, Pipeline.run_point_lt_of_flush t h1 s⟩ k = ⟨s.val * 1024 + k.val, hl⟩ := Fin.ext (by
    show (4 * (t.val / 4) + s.val) % 4 * 1024 + k.val = s.val * 1024 + k.val
    have := s.isLt; omega)
  show max (refHid m c (row _ r) (tile _ k)) 0 * max (refHid m c (row _ r) (tile _ k)) 0 * _ = _
  rw [hr, ht]
  rfl

/-- What a row tile's last point writes is the reference's result on its rows. -/
theorem out_at (c : Dev nD) (t : Fin cfg0.N) (h1 : t.val % 4 = 3) (r : Fin 512) (j : Fin 1024) :
    (k0_pay4 (outsAt0 m c t.val t.isLt).2.1 (outsAt0 m c t.val t.isLt).2.2.2
      (View.ld (iblk m c 7 t) (Rect.unit ![2, 0] ![1, 1024] inb_S3x1024_S1x1024_2_0)) (ix2 r j) : EReal)
      = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 (row t r) j) := by
  refine (pay_out _ _ _ r j).trans (Eq.trans ?_ (ref_out _ _ _ _ _ _ _ _ _ _ (row t r) j).symm)
  refine congrArg₂ (· + ·) (x1_at m c t r j) ?_
  rw [bgain2 m c t]
  exact congrArg (fun z => rms z _ j) (funext fun k => acc_C m c t h1 r k)

/-- After the run the output array is the reference's result. -/
theorem final8 (c : Dev nD) : (dats m 0 c).arrAt 8 cfg0.N
    = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 8 _ (by decide +kernel) fun t hf y => ?_
  have h1 : t.val % 4 = 3 := (flush0_8 t).mp hf
  blk_simp
  rw [after0_8, out_C m c t h1]
  have hy : (win0_8.blk t).view.emb y = ix2 (row t (y 0)) (y 1) := by blk_ext [idx t, row]
  have ey : y = ix2 (n0 := 512) (n1 := 1024) (y 0) (y 1) := by ext a; fin_cases a <;> rfl
  exact (congrArg _ ey).trans ((out_at m c t h1 (y 0) (y 1)).trans (congrArg _ hy.symm))

end Cert.Proof.OutFfn

end
-- ==== Proof.OutFfnClaim.lean ====
module

public import proofs.«01_k».proof.Defs
public import proofs.«01_k».proof.Proof.OutFfn

@[expose] public section

set_option maxRecDepth 16384

noncomputable section

open Idealize.ShloMosaic Idealize.ShloMosaic.TcCoe Idealize.SL.Sem

namespace Cert.Proof.OutFfn

open Cert.Reference2Ideal.Read

/-- The output projection and feed-forward: from equal arguments, kernel and reference end with the same array. -/
theorem algebraic : Cert.algebraic_Kernel2Ideal_Reference2Ideal := fun m g m' g' _ hA => by
  refine ⟨fun c => (Cert.Kernel2Ideal.Gen.dats m 0 c).arrAt 8 Cert.Kernel2Ideal.cfg0.N,
    Cert.Kernel2Ideal.Value.run_blocks m g, ?_⟩
  refine (θ_run Cert.Reference2Ideal.defs _ _).mono (fun r h c => ?_) (Cert.Reference2Ideal.Value.run m' g')
  obtain ⟨h46, ha⟩ := h c
  obtain ⟨e0, e1, e2, e3, e4, e5, e6, e7, e8, e9⟩ := hA c
  refine ⟨?_, ha⟩
  refine h46.trans ((val_main_v46_eq _ _).trans ?_)
  rw [e0, e1, e2, e3, e4, e5, e6, e7, e8, e9]; exact (final8 m c).symm

end Cert.Proof.OutFfn

end
-- ==== Proof.SConv.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Proof.SConv

open Cert.Kernel4Ideal Cert.Kernel4Ideal.Gen Cert.Reference4Ideal.Read

variable (m : (ℓ : Loc nD τ sig) → Buf (Elt Ideal) ℓ)

/-- The block of each window at grid point `t`: sequence `t` of the projected rows, of the state and of both outputs. -/
theorem idx : ∀ t : Fin cfg0.N, win0_0.index t = ![t.val, 0] ∧ win0_1.index t = ![t.val, 0, 0] ∧ win0_2.index t = ![0, 0]
    ∧ win0_3.index t = ![t.val, 0] ∧ win0_4.index t = ![t.val, 0, 0] :=
  (by decide +kernel : ∀ t : Fin grid0.N, _)

/-- Row `s` of sequence `b`, as a row of the flat array. -/
def row (b : Fin 8) (s : Fin 2048) : Fin 16384 := ⟨b.val * 2048 + s.val, by omega⟩

/-- The convolution's input `c * h` at row `s` of sequence `b`, channel `d`. -/
def u (x0 : (⟨S16384x768, .f32⟩ : BufTy).Contents (Elt Ideal)) (b : Fin 8) (s : Fin 2048) (d : Fin 256) : EReal :=
  x0 (ix2 (row b s) (⟨256 + d.val, by omega⟩ : Fin 768)) * x0 (ix2 (row b s) (⟨512 + d.val, by omega⟩ : Fin 768))

/-- The padded input: two rows of state, then the sequence. -/
def pad (x0 : (⟨S16384x768, .f32⟩ : BufTy).Contents (Elt Ideal)) (x1 : (⟨S8x2x256, .f32⟩ : BufTy).Contents (Elt Ideal))
    (b : Fin 8) (s : Fin 2050) (d : Fin 256) : EReal :=
  if h : s.val < 2 then x1 (ix3 b (⟨s.val, h⟩ : Fin 2) d) else u x0 b ⟨s.val - 2, by omega⟩ d

/-- The reference's padded input. -/
theorem ref_pad (x0 : (⟨S16384x768, .f32⟩ : BufTy).Contents (Elt Ideal)) (x1 : (⟨S8x2x256, .f32⟩ : BufTy).Contents (Elt Ideal))
    (b : Fin 8) (s : Fin 2050) (d : Fin 256) : val_main_v5 (F := Ideal) x0 x1 (ix3 b s d) = pad x0 x1 b s d := by
  unfold val_main_v5 val_main_v4 val_main_v3 val_main_v2 val_main_v0 pad u row
  pointwise []

/-- The reference's mixed rows: the gate times the sum of the three shifted products. -/
theorem ref_y (x0 : (⟨S16384x768, .f32⟩ : BufTy).Contents (Elt Ideal)) (x1 : (⟨S8x2x256, .f32⟩ : BufTy).Contents (Elt Ideal))
    (x2 : (⟨S3x256, .f32⟩ : BufTy).Contents (Elt Ideal)) (b : Fin 8) (s : Fin 2048) (d : Fin 256) :
    val_main_v30 (F := Ideal) x0 x1 x2 (ix2 (row b s) d) = x0 (ix2 (row b s) (⟨d.val, by omega⟩ : Fin 768))
      * (x2 (ix2 (0 : Fin 3) d) * pad x0 x1 b ⟨s.val, by omega⟩ d + x2 (ix2 (1 : Fin 3) d) * pad x0 x1 b ⟨s.val + 1, by omega⟩ d
        + x2 (ix2 (2 : Fin 3) d) * pad x0 x1 b ⟨s.val + 2, by omega⟩ d) := by
  unfold val_main_v30 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v1 val_main_v0 val_main_cst
  pointwise []
  have e0 : (⟨(row b s).val / 2048, by have := (row b s).isLt; omega⟩ : Fin 8) = b := Fin.ext (by simp only [row]; omega)
  have e1 : (row b s).val % 2048 = s.val := by simp only [row]; omega
  simp only [e0, e1, ref_pad, Nat.add_comm 1, Nat.add_comm 2]

/-- What the kernel's rotated and selected operand of a shift `k` reads. -/
theorem sel_eq (s : Fin 2048) (k : ℕ) (hk : k < 2) (a b : EReal) :
    Scalar.select (IntOp.cmpi CmpIPredicate.eq (BitVec.ofNat 32 s.val) (BitVec.ofNat 32 k)) a b = if s.val = k then a else b := by
  have hs := s.isLt
  rw [WordCmp.cmpi_eq_ofNat (by norm_num; omega) (by norm_num; omega)]
  unfold Scalar.select
  by_cases h : s.val = k
  · rw [if_pos h]; exact if_pos (by rw [decide_eq_true h]; rfl)
  · rw [if_neg h]; exact if_neg (by rw [decide_eq_false h]; decide)

/-- What the kernel writes of a sequence, at row `s`. -/
theorem pay_y (v0 v1 v2 : Vec Ideal S2048x256 .f32) (v5 : Vec Ideal S1x2x256 .f32) (v27 : Vec Ideal S3x256 .f32)
    (s : Fin 2048) (d : Fin 256) (P : Fin 2050 → EReal) (hb : ∀ e : Fin 2, v5 (ix3 (0 : Fin 1) e d) = P ⟨e.val, by omega⟩)
    (hu : ∀ e : Fin 2048, v1 (ix2 e d) * v2 (ix2 e d) = P ⟨e.val + 2, by omega⟩) :
    k0_pay3 v0 v1 v2 v5 v27 (ix2 s d) = v0 (ix2 s d) * (v27 (ix2 (0 : Fin 3) d) * P ⟨s.val, by omega⟩
      + v27 (ix2 (1 : Fin 3) d) * P ⟨s.val + 1, by omega⟩ + v27 (ix2 (2 : Fin 3) d) * P ⟨s.val + 2, by omega⟩) := by
  have hs := s.isLt
  pointwise [k0_pay3, k0_pay2]
  rw [sel_eq s 0 (by omega), sel_eq s 0 (by omega), sel_eq s 1 (by omega), hb, hb, hu, hu, hu]
  have e0 : (if s.val = 0 then P ⟨(0 : Fin 2).val, by omega⟩
      else if s.val = 1 then P ⟨(1 : Fin 2).val, by omega⟩
      else P ⟨(s.val + 2048 - 2) % 2048 + 2, by omega⟩) = P ⟨s.val, by omega⟩ := by
    split_ifs with h h'
    · exact congrArg P (Fin.ext h.symm)
    · exact congrArg P (Fin.ext h'.symm)
    · exact congrArg P (Fin.ext (by show (s.val + 2048 - 2) % 2048 + 2 = s.val; omega))
  have e1 : (if s.val = 0 then P ⟨(1 : Fin 2).val, by omega⟩
      else P ⟨(s.val + 2048 - 1) % 2048 + 2, by omega⟩) = P ⟨s.val + 1, by omega⟩ := by
    split_ifs with h
    · exact congrArg P (Fin.ext (by show 1 = s.val + 1; omega))
    · exact congrArg P (Fin.ext (by show (s.val + 2048 - 1) % 2048 + 2 = s.val + 1; omega))
  rw [e0, e1]

/-- The state after the run is the reference's: the last two rows of the padded input. -/
theorem final4 (c : Dev nD) : (dats m 0 c).arrAt 4 cfg0.N
    = val_main_v29 (F := Ideal) (m ((c.tc : Thread nD τ).loc main_arg0))
        (m ((c.tc : Thread nD τ).loc main_arg1)) := by
  refine (dats m 0 c).arrAt_eq_of_covers 4 _ (by decide +kernel) fun t hf y => ?_
  blk_simp
  rw [after0_4]
  frame_out
  unfold val_main_v29 val_main_v5 val_main_v4 val_main_v3 val_main_v2 val_main_v0
  pointwise [k0_pay1, k0_pay2]
  refine Eq.trans ?_ (dif_neg (Nat.not_lt.mpr (Nat.le_trans (by decide : 2 ≤ 2048) (Nat.le_add_right _ _)))).symm
  blk_point [iblk, V, idx t]

/-- The mixed rows after the run are the reference's. -/
theorem final3 (c : Dev nD) : (dats m 0 c).arrAt 3 cfg0.N
    = val_main_v30 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t hf y => ?_
  have ht : t.val < 8 := t.isLt
  blk_simp
  rw [after0_3]
  frame_out
  have hy : y = ix2 (n0 := 2048) (n1 := 256) (y 0) (y 1) := by funext a; match a with | 0 => rfl | 1 => rfl
  have he : (win0_3.blk t).view.emb y = ix2 (row ⟨t.val, ht⟩ (y 0)) (y 1) := by
    blk_ext [idx t, row]
  refine Eq.trans ?_ ((congrArg _ he).trans (ref_y _ _ _ _ _ _)).symm
  refine (congrArg _ hy).trans ?_
  refine (pay_y _ _ _ _ _ (y 0) (y 1) (fun s => pad (m ((c.tc : Thread nD τ).loc main_arg0))
    (m ((c.tc : Thread nD τ).loc main_arg1)) ⟨t.val, ht⟩ s (y 1)) ?_ ?_).trans ?_
  · intro e
    refine Eq.trans ?_ (dif_pos e.isLt).symm
    blk_point [iblk, V, idx t]
  · intro e
    refine Eq.trans ?_ (dif_neg (by show ¬ e.val + 2 < 2; omega)).symm
    unfold u
    blk_point [iblk, V, idx t, row]
  · blk_point [iblk, V, idx t, row]

end Cert.Proof.SConv

end
-- ==== Proof.SConvClaim.lean ====
module

public import proofs.«01_k».proof.Defs
public import proofs.«01_k».proof.Proof.SConv

@[expose] public section

set_option maxRecDepth 16384

noncomputable section

open Idealize.ShloMosaic Idealize.ShloMosaic.TcCoe Idealize.SL.Sem

namespace Cert.Proof.SConv

open Cert.Reference4Ideal.Read

/-- The short convolution of the prompt: from equal arguments, kernel and reference end with the same mixed rows and the
    same new state. -/
theorem algebraic : Cert.algebraic_Kernel4Ideal_Reference4Ideal := fun m g m' g' _ hA => by
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N,
    Cert.Kernel4Ideal.Value.run_blocks m g, ?_⟩
  refine (θ_run Cert.Reference4Ideal.defs _ _).mono (fun r h c => ?_) (Cert.Reference4Ideal.Value.run m' g')
  obtain ⟨hy, hs, ha⟩ := h c
  obtain ⟨e0, e1, e2⟩ := hA c
  refine ⟨?_, ?_, ha⟩
  · refine hy.trans ((val_main_v30_eq _ _ _).trans ?_)
    rw [e0, e1, e2]; exact (final3 m c).symm
  · refine hs.trans ((val_main_v29_eq _ _).trans ?_)
    rw [e0, e1]; exact (final4 m c).symm

end Cert.Proof.SConv

end
-- ==== Proof.SConvSample.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.SConvSample

open Cert.Kernel5Ideal Cert.Kernel5Ideal.Gen Cert.Reference5Ideal.Read

variable (m : (ℓ : Loc nD τ sig) → Buf (Elt Ideal) ℓ)

/-- The kernel has one grid point, and each window's block there is its whole array. -/
theorem idx : ∀ t : Fin cfg0.N, win0_0.index t = ![0, 0] ∧ win0_1.index t = ![0, 0, 0] ∧ win0_2.index t = ![0, 0]
    ∧ win0_3.index t = ![0, 0] ∧ win0_4.index t = ![0, 0, 0] :=
  (by decide +kernel : ∀ t : Fin grid0.N, _)

/-- Step `t` of sequence `b`, as a row of the time-major array. -/
def row (t : Fin 4) (b : Fin 128) : Fin 512 := ⟨t.val * 128 + b.val, by omega⟩

/-- The convolution's input `c * h` at step `t` of sequence `b`, channel `d`. -/
def u (x0 : (⟨S512x768, .f32⟩ : BufTy).Contents (Elt Ideal)) (t : Fin 4) (b : Fin 128) (d : Fin 256) : EReal :=
  x0 (ix2 (row t b) (⟨256 + d.val, by omega⟩ : Fin 768)) * x0 (ix2 (row t b) (⟨512 + d.val, by omega⟩ : Fin 768))

/-- The padded input: the two rows of state `s`, then the four steps. -/
def pad (x0 : (⟨S512x768, .f32⟩ : BufTy).Contents (Elt Ideal)) (s : Fin 2 → Fin 128 → Fin 256 → EReal)
    (t : Fin 6) (b : Fin 128) (d : Fin 256) : EReal :=
  if h : t.val < 2 then s ⟨t.val, h⟩ b d else u x0 ⟨t.val - 2, by omega⟩ b d

/-- The mixed row at step `t`: the gate times the sum of the three shifted products. -/
def mix (x0 : (⟨S512x768, .f32⟩ : BufTy).Contents (Elt Ideal)) (s : Fin 2 → Fin 128 → Fin 256 → EReal)
    (x2 : (⟨S3x256, .f32⟩ : BufTy).Contents (Elt Ideal)) (t : Fin 4) (b : Fin 128) (d : Fin 256) : EReal :=
  x0 (ix2 (row t b) (⟨d.val, by omega⟩ : Fin 768))
    * (x2 (ix2 (0 : Fin 3) d) * pad x0 s ⟨t.val, by omega⟩ b d + x2 (ix2 (1 : Fin 3) d) * pad x0 s ⟨t.val + 1, by omega⟩ b d
      + x2 (ix2 (2 : Fin 3) d) * pad x0 s ⟨t.val + 2, by omega⟩ b d)

/-- The reference's padded input. -/
theorem ref_pad (x0 : (⟨S512x768, .f32⟩ : BufTy).Contents (Elt Ideal)) (x1 : (⟨S128x2x256, .f32⟩ : BufTy).Contents (Elt Ideal))
    (t : Fin 6) (b : Fin 128) (d : Fin 256) :
    val_main_v6 (F := Ideal) x0 x1 (ix3 b t d) = pad x0 (fun e b d => x1 (ix3 b e d)) t b d := by
  unfold val_main_v6 val_main_v5 val_main_v4 val_main_v3 val_main_v1 val_main_v0 pad u row
  pointwise []

/-- The reference's mixed rows. -/
theorem ref_y (x0 : (⟨S512x768, .f32⟩ : BufTy).Contents (Elt Ideal)) (x1 : (⟨S128x2x256, .f32⟩ : BufTy).Contents (Elt Ideal))
    (x2 : (⟨S3x256, .f32⟩ : BufTy).Contents (Elt Ideal)) (r : Fin 512) (d : Fin 256) :
    val_main_v32 (F := Ideal) x0 x1 x2 (ix2 r d)
      = mix x0 (fun e b d => x1 (ix3 b e d)) x2 ⟨r.val / 128, by omega⟩ ⟨r.val % 128, by omega⟩ d := by
  unfold val_main_v32 val_main_v31 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v2 val_main_v1 val_main_v0 val_main_cst mix
  pointwise []
  have e : row ⟨r.val / 128, by omega⟩ ⟨r.val % 128, by omega⟩ = r := Fin.ext (by simp only [row]; omega)
  simp only [e, ref_pad, Nat.add_comm 1, Nat.add_comm 2]

/-- The reference's new state: the products of the last two steps. -/
theorem ref_s (x0 : (⟨S512x768, .f32⟩ : BufTy).Contents (Elt Ideal)) (x1 : (⟨S128x2x256, .f32⟩ : BufTy).Contents (Elt Ideal))
    (e : Fin 2) (b : Fin 128) (d : Fin 256) :
    val_main_v33 (F := Ideal) x0 x1 (ix3 e b d) = u x0 ⟨e.val + 2, by omega⟩ b d := by
  unfold val_main_v33 val_main_v30
  pointwise []
  rw [ref_pad]
  refine (dif_neg (by show ¬ 4 + e.val < 2; omega)).trans ?_
  exact congrArg (u x0 · b d) (Fin.ext (by show 4 + e.val - 2 = e.val + 2; omega))

/-- The rows of the four steps, as offsets. -/
theorem row_lit (b : Fin 128) : row 0 b = ⟨b.val, by omega⟩ ∧ row 1 b = ⟨128 + b.val, by omega⟩
    ∧ row 2 b = ⟨256 + b.val, by omega⟩ ∧ row 3 b = ⟨384 + b.val, by omega⟩ :=
  ⟨Fin.ext (Nat.zero_add _), rfl, rfl, rfl⟩

/-- The mixed row at step 0, every operand named. -/
theorem mix_0 (x0 : (⟨S512x768, .f32⟩ : BufTy).Contents (Elt Ideal)) (s : Fin 2 → Fin 128 → Fin 256 → EReal)
    (x2 : (⟨S3x256, .f32⟩ : BufTy).Contents (Elt Ideal)) (b : Fin 128) (d : Fin 256) :
    mix x0 s x2 0 b d = x0 (ix2 (⟨b.val, by omega⟩ : Fin 512) (⟨d.val, by omega⟩ : Fin 768)) * (x2 (ix2 (0 : Fin 3) d) * s 0 b d
      + x2 (ix2 (1 : Fin 3) d) * s 1 b d
      + x2 (ix2 (2 : Fin 3) d) * (x0 (ix2 (⟨b.val, by omega⟩ : Fin 512) (⟨256 + d.val, by omega⟩ : Fin 768)) * x0 (ix2 (⟨b.val, by omega⟩ : Fin 512) (⟨512 + d.val, by omega⟩ : Fin 768)))) := by
  have h : mix x0 s x2 0 b d = x0 (ix2 (row 0 b) (⟨d.val, by omega⟩ : Fin 768)) * (x2 (ix2 (0 : Fin 3) d) * s 0 b d
      + x2 (ix2 (1 : Fin 3) d) * s 1 b d + x2 (ix2 (2 : Fin 3) d) * u x0 0 b d) := rfl
  rw [h]
  simp only [u, (row_lit _).1, (row_lit _).2.1, (row_lit _).2.2.1, (row_lit _).2.2.2]

/-- The mixed row at step 1, every operand named. -/
theorem mix_1 (x0 : (⟨S512x768, .f32⟩ : BufTy).Contents (Elt Ideal)) (s : Fin 2 → Fin 128 → Fin 256 → EReal)
    (x2 : (⟨S3x256, .f32⟩ : BufTy).Contents (Elt Ideal)) (b : Fin 128) (d : Fin 256) :
    mix x0 s x2 1 b d = x0 (ix2 (⟨128 + b.val, by omega⟩ : Fin 512) (⟨d.val, by omega⟩ : Fin 768)) * (x2 (ix2 (0 : Fin 3) d) * s 1 b d
      + x2 (ix2 (1 : Fin 3) d) * (x0 (ix2 (⟨b.val, by omega⟩ : Fin 512) (⟨256 + d.val, by omega⟩ : Fin 768)) * x0 (ix2 (⟨b.val, by omega⟩ : Fin 512) (⟨512 + d.val, by omega⟩ : Fin 768)))
      + x2 (ix2 (2 : Fin 3) d) * (x0 (ix2 (⟨128 + b.val, by omega⟩ : Fin 512) (⟨256 + d.val, by omega⟩ : Fin 768)) * x0 (ix2 (⟨128 + b.val, by omega⟩ : Fin 512) (⟨512 + d.val, by omega⟩ : Fin 768)))) := by
  have h : mix x0 s x2 1 b d = x0 (ix2 (row 1 b) (⟨d.val, by omega⟩ : Fin 768)) * (x2 (ix2 (0 : Fin 3) d) * s 1 b d
      + x2 (ix2 (1 : Fin 3) d) * u x0 0 b d + x2 (ix2 (2 : Fin 3) d) * u x0 1 b d) := rfl
  rw [h]
  simp only [u, (row_lit _).1, (row_lit _).2.1, (row_lit _).2.2.1, (row_lit _).2.2.2]

/-- The mixed row at step 2, every operand named. -/
theorem mix_2 (x0 : (⟨S512x768, .f32⟩ : BufTy).Contents (Elt Ideal)) (s : Fin 2 → Fin 128 → Fin 256 → EReal)
    (x2 : (⟨S3x256, .f32⟩ : BufTy).Contents (Elt Ideal)) (b : Fin 128) (d : Fin 256) :
    mix x0 s x2 2 b d = x0 (ix2 (⟨256 + b.val, by omega⟩ : Fin 512) (⟨d.val, by omega⟩ : Fin 768)) * (x2 (ix2 (0 : Fin 3) d) * (x0 (ix2 (⟨b.val, by omega⟩ : Fin 512) (⟨256 + d.val, by omega⟩ : Fin 768)) * x0 (ix2 (⟨b.val, by omega⟩ : Fin 512) (⟨512 + d.val, by omega⟩ : Fin 768)))
      + x2 (ix2 (1 : Fin 3) d) * (x0 (ix2 (⟨128 + b.val, by omega⟩ : Fin 512) (⟨256 + d.val, by omega⟩ : Fin 768)) * x0 (ix2 (⟨128 + b.val, by omega⟩ : Fin 512) (⟨512 + d.val, by omega⟩ : Fin 768)))
      + x2 (ix2 (2 : Fin 3) d) * (x0 (ix2 (⟨256 + b.val, by omega⟩ : Fin 512) (⟨256 + d.val, by omega⟩ : Fin 768)) * x0 (ix2 (⟨256 + b.val, by omega⟩ : Fin 512) (⟨512 + d.val, by omega⟩ : Fin 768)))) := by
  have h : mix x0 s x2 2 b d = x0 (ix2 (row 2 b) (⟨d.val, by omega⟩ : Fin 768)) * (x2 (ix2 (0 : Fin 3) d) * u x0 0 b d
      + x2 (ix2 (1 : Fin 3) d) * u x0 1 b d + x2 (ix2 (2 : Fin 3) d) * u x0 2 b d) := rfl
  rw [h]
  simp only [u, (row_lit _).1, (row_lit _).2.1, (row_lit _).2.2.1, (row_lit _).2.2.2]

/-- The mixed row at step 3, every operand named. -/
theorem mix_3 (x0 : (⟨S512x768, .f32⟩ : BufTy).Contents (Elt Ideal)) (s : Fin 2 → Fin 128 → Fin 256 → EReal)
    (x2 : (⟨S3x256, .f32⟩ : BufTy).Contents (Elt Ideal)) (b : Fin 128) (d : Fin 256) :
    mix x0 s x2 3 b d = x0 (ix2 (⟨384 + b.val, by omega⟩ : Fin 512) (⟨d.val, by omega⟩ : Fin 768)) * (x2 (ix2 (0 : Fin 3) d) * (x0 (ix2 (⟨128 + b.val, by omega⟩ : Fin 512) (⟨256 + d.val, by omega⟩ : Fin 768)) * x0 (ix2 (⟨128 + b.val, by omega⟩ : Fin 512) (⟨512 + d.val, by omega⟩ : Fin 768)))
      + x2 (ix2 (1 : Fin 3) d) * (x0 (ix2 (⟨256 + b.val, by omega⟩ : Fin 512) (⟨256 + d.val, by omega⟩ : Fin 768)) * x0 (ix2 (⟨256 + b.val, by omega⟩ : Fin 512) (⟨512 + d.val, by omega⟩ : Fin 768)))
      + x2 (ix2 (2 : Fin 3) d) * (x0 (ix2 (⟨384 + b.val, by omega⟩ : Fin 512) (⟨256 + d.val, by omega⟩ : Fin 768)) * x0 (ix2 (⟨384 + b.val, by omega⟩ : Fin 512) (⟨512 + d.val, by omega⟩ : Fin 768)))) := by
  have h : mix x0 s x2 3 b d = x0 (ix2 (row 3 b) (⟨d.val, by omega⟩ : Fin 768)) * (x2 (ix2 (0 : Fin 3) d) * u x0 1 b d
      + x2 (ix2 (1 : Fin 3) d) * u x0 2 b d + x2 (ix2 (2 : Fin 3) d) * u x0 3 b d) := rfl
  rw [h]
  simp only [u, (row_lit _).1, (row_lit _).2.1, (row_lit _).2.2.1, (row_lit _).2.2.2]

/-- What the four stores leave of the mixed rows, from the arrays the kernel reads. -/
theorem out3 (x0 : Vec Ideal S512x768 .f32) (x1 : Vec Ideal S2x128x256 .f32) (x2 : Vec Ideal S3x256 .f32) (y : S512x256.Idx) :
    out0_3 x0 x1 x2 y = mix x0 (fun e b d => x1 (ix3 e b d)) x2 ⟨(y 0).val / 128, by have h : (y 0).val < 512 := (y 0).isLt; omega⟩
      ⟨(y 0).val % 128, by omega⟩ (y 1) := by
  unfold_out out0_3
  refine View.canon_apply_of_pieces (Val := Elt Ideal) (fun y : S512x256.Idx => mix x0 (fun e b d => x1 (ix3 e b d)) x2
    ⟨(y 0).val / 128, by have h : (y 0).val < 512 := (y 0).isLt; omega⟩ ⟨(y 0).val % 128, by omega⟩ (y 1)) _ ?_ y (cover0_3 _ _ _ _ y)
  intro pc hpc
  rcases List.mem_cons.mp hpc with rfl | hpc
  · intro x
    have h : (x 0).val < 128 := (x 0).isLt
    have e0 : (⟨(r0_9.emb x 0).val / 128, by have h : (r0_9.emb x 0).val < 512 := (r0_9.emb x 0).isLt; omega⟩ : Fin 4) = 3 :=
      Fin.ext (by show (384 + 1 * (x 0).val) / 128 = 3; omega)
    have e1 : (⟨(r0_9.emb x 0).val % 128, by omega⟩ : Fin 128) = x 0 :=
      Fin.ext (by show (384 + 1 * (x 0).val) % 128 = (x 0).val; omega)
    have e2 : r0_9.emb x 1 = x 1 := Fin.ext (by show 0 + 1 * (x 1).val = (x 1).val; omega)
    pointwise [k0_pay2, k0_pay5, k0_pay8, k0_pay9, k0_pay10]
    rw [e0, e1, e2]
    exact (mix_3 x0 (fun e b d => x1 (ix3 e b d)) x2 (x 0) (x 1)).symm
  rcases List.mem_cons.mp hpc with rfl | hpc
  · intro x
    have h : (x 0).val < 128 := (x 0).isLt
    have e0 : (⟨(r0_8.emb x 0).val / 128, by have h : (r0_8.emb x 0).val < 512 := (r0_8.emb x 0).isLt; omega⟩ : Fin 4) = 2 :=
      Fin.ext (by show (256 + 1 * (x 0).val) / 128 = 2; omega)
    have e1 : (⟨(r0_8.emb x 0).val % 128, by omega⟩ : Fin 128) = x 0 :=
      Fin.ext (by show (256 + 1 * (x 0).val) % 128 = (x 0).val; omega)
    have e2 : r0_8.emb x 1 = x 1 := Fin.ext (by show 0 + 1 * (x 1).val = (x 1).val; omega)
    pointwise [k0_pay1, k0_pay5, k0_pay7, k0_pay8, k0_pay9]
    rw [e0, e1, e2]
    exact (mix_2 x0 (fun e b d => x1 (ix3 e b d)) x2 (x 0) (x 1)).symm
  rcases List.mem_cons.mp hpc with rfl | hpc
  · intro x
    have h : (x 0).val < 128 := (x 0).isLt
    have e0 : (⟨(r0_7.emb x 0).val / 128, by have h : (r0_7.emb x 0).val < 512 := (r0_7.emb x 0).isLt; omega⟩ : Fin 4) = 1 :=
      Fin.ext (by show (128 + 1 * (x 0).val) / 128 = 1; omega)
    have e1 : (⟨(r0_7.emb x 0).val % 128, by omega⟩ : Fin 128) = x 0 :=
      Fin.ext (by show (128 + 1 * (x 0).val) % 128 = (x 0).val; omega)
    have e2 : r0_7.emb x 1 = x 1 := Fin.ext (by show 0 + 1 * (x 1).val = (x 1).val; omega)
    pointwise [k0_pay12, k0_pay5, k0_pay6, k0_pay7, k0_pay8]
    rw [e0, e1, e2]
    exact (mix_1 x0 (fun e b d => x1 (ix3 e b d)) x2 (x 0) (x 1)).symm
  rcases List.mem_cons.mp hpc with rfl | hpc
  · intro x
    have h : (x 0).val < 128 := (x 0).isLt
    have e0 : (⟨(r0_6.emb x 0).val / 128, by have h : (r0_6.emb x 0).val < 512 := (r0_6.emb x 0).isLt; omega⟩ : Fin 4) = 0 :=
      Fin.ext (by show (0 + 1 * (x 0).val) / 128 = 0; omega)
    have e1 : (⟨(r0_6.emb x 0).val % 128, by omega⟩ : Fin 128) = x 0 :=
      Fin.ext (by show (0 + 1 * (x 0).val) % 128 = (x 0).val; omega)
    have e2 : r0_6.emb x 1 = x 1 := Fin.ext (by show 0 + 1 * (x 1).val = (x 1).val; omega)
    pointwise [k0_pay11, k0_pay5, k0_pay6, k0_pay7]
    rw [e0, e1, e2]
    exact (mix_0 x0 (fun e b d => x1 (ix3 e b d)) x2 (x 0) (x 1)).symm
  nomatch hpc

/-- What the two stores leave of the state: the products of the last two steps. -/
theorem out4 (x0 : Vec Ideal S512x768 .f32) (x1 : Vec Ideal S2x128x256 .f32) (x2 : Vec Ideal S3x256 .f32)
    (e : Fin 2) (b : Fin 128) (d : Fin 256) : out0_4 x0 x1 x2 (ix3 e b d) = u x0 ⟨e.val + 2, by omega⟩ b d := by
  unfold_out out0_4
  refine (Cert.Kernel5Ideal.Value.canon4_eq _ _ _).trans ?_
  show x0 _ * x0 _ = _
  unfold u row
  refine congrArg₂ (· * ·) (congrArg x0 ?_) (congrArg x0 ?_)
  · funext a
    match a with
    | 0 => exact Fin.ext (by show 0 + 1 * (e.val * 128 + b.val + 256) = (e.val + 2) * 128 + b.val; omega)
    | 1 => exact Fin.ext (by show 256 + 1 * d.val = 256 + d.val; omega)
  · funext a
    match a with
    | 0 => exact Fin.ext (by show 0 + 1 * (e.val * 128 + b.val + 256) = (e.val + 2) * 128 + b.val; omega)
    | 1 => exact Fin.ext (by show 512 + 1 * d.val = 512 + d.val; omega)

/-- The rows' block is the whole array. -/
theorem blk0 (c : Dev nD) (t : Fin cfg0.N) : iblk m c 0 t = m ((c.tc : Thread nD τ).loc main_arg0) := by
  funext y
  blk_point [iblk, V, idx t]

/-- The taps' block is the whole array. -/
theorem blk2 (c : Dev nD) (t : Fin cfg0.N) : iblk m c 2 t = m ((c.tc : Thread nD τ).loc main_arg2) := by
  funext y
  blk_point [iblk, V, idx t]

/-- What the region finds in the state's array: the state, step by step. -/
theorem V1 (c : Dev nD) (e : Fin 2) (b : Fin 128) (d : Fin 256) :
    V m c main_v0 (ix3 e b d) = m ((c.tc : Thread nD τ).loc main_arg1) (ix3 b e d) := by
  blk_simp [V, hostOps0]
  after_results
  pointwise []

/-- The state's block is the whole array, step by step. -/
theorem blk1 (c : Dev nD) (t : Fin cfg0.N) (e : Fin 2) (b : Fin 128) (d : Fin 256) :
    iblk m c 1 t (ix3 e b d) = m ((c.tc : Thread nD τ).loc main_arg1) (ix3 b e d) := by
  refine Eq.trans ?_ (V1 m c e b d)
  blk_point [iblk, idx t]

/-- The mixed rows after the run are the reference's. -/
theorem final3 (c : Dev nD) : (dats m 0 c).arrAt 3 cfg0.N
    = val_main_v32 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t hf y => ?_
  blk_simp
  rw [after0_3]
  refine (out3 _ _ _ y).trans ?_
  have he : (win0_3.blk t).view.emb y = ix2 (y 0) (y 1) := by
    blk_ext [idx t]
  refine Eq.trans ?_ ((congrArg _ he).trans (ref_y _ _ _ _ _)).symm
  have hs : (fun e b d => iblk m c 1 t (ix3 e b d)) = fun e b d => m ((c.tc : Thread nD τ).loc main_arg1) (ix3 b e d) :=
    funext fun e => funext fun b => funext fun d => blk1 m c t e b d
  rw [blk0 m c t, blk2 m c t, hs]

/-- The state after the run is the reference's. -/
theorem final4 (c : Dev nD) : (dats m 0 c).arrAt 4 cfg0.N
    = val_main_v33 (F := Ideal) (m ((c.tc : Thread nD τ).loc main_arg0))
        (m ((c.tc : Thread nD τ).loc main_arg1)) := by
  refine (dats m 0 c).arrAt_eq_of_covers 4 _ (by decide +kernel) fun t hf y => ?_
  blk_simp
  rw [after0_4]
  have he : (win0_4.blk t).view.emb y = ix3 (y 0) (y 1) (y 2) := by
    blk_ext [idx t]
  have hy : y = ix3 (n0 := 2) (n1 := 128) (n2 := 256) (y 0) (y 1) (y 2) := by
    funext a; match a with | 0 => rfl | 1 => rfl | 2 => rfl
  refine Eq.trans ?_ ((congrArg _ he).trans (ref_s _ _ _ _ _)).symm
  refine (congrArg _ hy).trans ((out4 _ _ _ (y 0) (y 1) (y 2)).trans ?_)
  rw [blk0 m c t]

end Cert.Proof.SConvSample

end
-- ==== Proof.SConvSampleClaim.lean ====
module

public import proofs.«01_k».proof.Defs
public import proofs.«01_k».proof.Proof.SConvSample

@[expose] public section

set_option maxRecDepth 16384

noncomputable section

open Idealize.ShloMosaic Idealize.ShloMosaic.TcCoe Idealize.SL.Sem

namespace Cert.Proof.SConvSample

open Cert.Reference5Ideal.Read

/-- The short convolution of the sample batch: from equal arguments, kernel and reference end with the same mixed rows and
    the same new state. -/
theorem algebraic : Cert.algebraic_Kernel5Ideal_Reference5Ideal := fun m g m' g' _ hA => by
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    Cert.Kernel5Ideal.Value.run_blocks m g, ?_⟩
  refine (θ_run Cert.Reference5Ideal.defs _ _).mono (fun r h c => ?_) (Cert.Reference5Ideal.Value.run m' g')
  obtain ⟨hy, hs, ha⟩ := h c
  obtain ⟨e0, e1, e2⟩ := hA c
  refine ⟨?_, ?_, ha⟩
  · refine hy.trans ((val_main_v32_eq _ _ _).trans ?_)
    rw [e0, e1, e2]; exact (final3 m c).symm
  · refine hs.trans ((val_main_v33_eq _ _).trans ?_)
    rw [e0, e1]; exact (final4 m c).symm

end Cert.Proof.SConvSample

end
-- ==== Proof.InProjSample.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.ValueIdx Idealize.SL.Sem

namespace Cert.Proof.InProjSample

open Cert.Kernel6Ideal Cert.Kernel6Ideal.Gen Cert.Reference6Ideal.Read

variable (m : (ℓ : Loc nD τ sig) → Buf (Elt Ideal) ℓ)

/-- The one grid point takes every window at its first block: all 512 rows of the sample batch, the whole weights and gain. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The five output arrays after the run, of the sample batch's rows, are the reference's five results. -/
theorem final3 (c : Dev nD) : (dats m 0 c).arrAt 3 cfg0.N
    = val_main_v14 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay3, k0_pay2]
  blk_point [iblk, V, idx t]

theorem final4 (c : Dev nD) : (dats m 0 c).arrAt 4 cfg0.N
    = val_main_v15 (F := Ideal) (m ((c.tc : Thread nD τ).loc main_arg0))
        (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  unfold val_main_v15 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay4, k0_pay2]
  blk_point [iblk, V, idx t]

theorem final5 (c : Dev nD) : (dats m 0 c).arrAt 5 cfg0.N
    = val_main_v17 (F := Ideal) (m ((c.tc : Thread nD τ).loc main_arg0))
        (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  unfold val_main_v17 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay5, k0_pay2]
  blk_point [iblk, V, idx t]

theorem final6 (c : Dev nD) : (dats m 0 c).arrAt 6 cfg0.N
    = val_main_v18 (F := Ideal) (m ((c.tc : Thread nD τ).loc main_arg0))
        (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  unfold val_main_v18 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay6, k0_pay2]
  blk_point [iblk, V, idx t]

theorem final7 (c : Dev nD) : (dats m 0 c).arrAt 7 cfg0.N
    = val_main_v19 (F := Ideal) (m ((c.tc : Thread nD τ).loc main_arg0))
        (m ((c.tc : Thread nD τ).loc main_arg1)) (m ((c.tc : Thread nD τ).loc main_arg2)) := by
  refine (dats m 0 c).arrAt_eq_of_covers 7 _ (by decide +kernel) fun t hf y => ?_
  blk_simp
  rw [after0_7]
  frame_out
  unfold val_main_v19 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay1, k0_pay2]
  blk_point [iblk, V, idx t]

end Cert.Proof.InProjSample

end
-- ==== Proof.InProjSampleClaim.lean ====
module

public import proofs.«01_k».proof.Defs
public import proofs.«01_k».proof.Proof.InProjSample

@[expose] public section

set_option maxRecDepth 16384

noncomputable section

open Idealize.ShloMosaic Idealize.ShloMosaic.TcCoe Idealize.SL.Sem

namespace Cert.Proof.InProjSample

open Cert.Reference6Ideal.Read

/-- The input projection of the sample batch: from equal arguments, kernel and reference end with the same five arrays. -/
theorem algebraic : Cert.algebraic_Kernel6Ideal_Reference6Ideal := fun m g m' g' _ hA => by
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks m g, ?_⟩
  refine (θ_run Cert.Reference6Ideal.defs _ _).mono (fun r h c => ?_) (Cert.Reference6Ideal.Value.run m' g')
  obtain ⟨h14, h15, h17, h18, h19, ha⟩ := h c
  obtain ⟨e0, e1, e2⟩ := hA c
  refine ⟨?_, ?_, ?_, ?_, ?_, ha⟩
  · refine h14.trans ((val_main_v14_eq _ _ _).trans ?_)
    rw [e0, e1, e2]; exact (final3 m c).symm
  · refine h15.trans ((val_main_v15_eq _ _ _).trans ?_)
    rw [e0, e1, e2]; exact (final4 m c).symm
  · refine h17.trans ((val_main_v17_eq _ _ _).trans ?_)
    rw [e0, e1, e2]; exact (final5 m c).symm
  · refine h18.trans ((val_main_v18_eq _ _ _).trans ?_)
    rw [e0, e1, e2]; exact (final6 m c).symm
  · refine h19.trans ((val_main_v19_eq _ _ _).trans ?_)
    rw [e0, e1, e2]; exact (final7 m c).symm

end Cert.Proof.InProjSample

end
-- ==== Proof.OutFfnSampleBlocks.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.OutFfnSample

open Cert.Kernel7Ideal Cert.Kernel7Ideal.Gen Cert.Reference7Ideal.Read

variable (m : (ℓ : Loc nD τ sig) → Buf (Elt Ideal) ℓ)

/-- The block of each window at grid point `t`, the tile of the hidden width: all 512 rows of the row arrays, tile `t` of the feed-forward weights. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, t.val] ∧ win0_6.index t = ![t.val, 0] ∧ win0_7.index t = ![0, 0]
    ∧ win0_8.index t = ![0, 0] :=
  (by decide +kernel : ∀ t : Fin grid0.N, _)

/-- Unit `k` of a point's hidden tile, as a hidden unit of the whole layer. -/
def tile (t : Fin cfg0.N) (k : Fin 1024) : Fin 4096 :=
  ⟨t.val * 1024 + k.val, by have := t.isLt; have := k.isLt; have : cfg0.N = 4 := rfl; omega⟩

/-- What each input block holds at a point, as entries of the argument it is cut from. -/
theorem blk0 (c : Dev nD) (t : Fin cfg0.N) (r : Fin 512) (k : Fin 1024) :
    (iblk m c 0 t (ix2 r k) : EReal) = m ((c.tc : Thread nD τ).loc main_arg0) (ix2 r k) := by
  blk_point [iblk, V, idx t]

theorem blk1 (c : Dev nD) (t : Fin cfg0.N) (r : Fin 512) (k : Fin 256) :
    (iblk m c 1 t (ix2 r k) : EReal) = m ((c.tc : Thread nD τ).loc main_arg1) (ix2 r k) := by
  blk_point [iblk, V, idx t]

theorem blk2 (c : Dev nD) (t : Fin cfg0.N) (r : Fin 512) (k : Fin 384) :
    (iblk m c 2 t (ix2 r k) : EReal) = m ((c.tc : Thread nD τ).loc main_arg2) (ix2 r k) := by
  blk_point [iblk, V, idx t]

theorem blk3 (c : Dev nD) (t : Fin cfg0.N) (r : Fin 512) (k : Fin 384) :
    (iblk m c 3 t (ix2 r k) : EReal) = m ((c.tc : Thread nD τ).loc main_arg3) (ix2 r k) := by
  blk_point [iblk, V, idx t]

/-- The weights as the kernel gets them: the arguments, as a cast is the identity over the extended reals. -/
theorem host4 (c : Dev nD) (i) :
    (V m c main_v4 i : EReal) = m ((c.tc : Thread nD τ).loc main_arg4) i := by
  blk_simp [V, hostOps0]
  after_results
  rfl

theorem host5 (c : Dev nD) (i) :
    (V m c main_v5 i : EReal) = m ((c.tc : Thread nD τ).loc main_arg5) i := by
  blk_simp [V, hostOps0]
  after_results
  rfl

theorem host6 (c : Dev nD) (i) :
    (V m c main_v6 i : EReal) = m ((c.tc : Thread nD τ).loc main_arg6) i := by
  blk_simp [V, hostOps0]
  after_results
  rfl

/-- The output projection's rows for each mixer. -/
theorem blk4_0 (c : Dev nD) (t : Fin cfg0.N) (r : Fin 256) (k : Fin 1024) :
    (View.ld (iblk m c 4 t) (Rect.unit ![0, 0] ![256, 1024] inb_S1024x1024_S256x1024_0_0) (ix2 r k) : EReal)
      = m ((c.tc : Thread nD τ).loc main_arg4) (ix2 ⟨0 + r.val, by omega⟩ k) := by
  refine Eq.trans ?_ (host4 m c _)
  pointwise []
  blk_point [iblk, idx t]

theorem blk4_256 (c : Dev nD) (t : Fin cfg0.N) (r : Fin 384) (k : Fin 1024) :
    (View.ld (iblk m c 4 t) (Rect.unit ![256, 0] ![384, 1024] inb_S1024x1024_S384x1024_256_0) (ix2 r k) : EReal)
      = m ((c.tc : Thread nD τ).loc main_arg4) (ix2 ⟨256 + r.val, by omega⟩ k) := by
  refine Eq.trans ?_ (host4 m c _)
  pointwise []
  blk_point [iblk, idx t]

theorem blk4_640 (c : Dev nD) (t : Fin cfg0.N) (r : Fin 384) (k : Fin 1024) :
    (View.ld (iblk m c 4 t) (Rect.unit ![640, 0] ![384, 1024] inb_S1024x1024_S384x1024_640_0) (ix2 r k) : EReal)
      = m ((c.tc : Thread nD τ).loc main_arg4) (ix2 ⟨640 + r.val, by omega⟩ k) := by
  refine Eq.trans ?_ (host4 m c _)
  pointwise []
  blk_point [iblk, idx t]

/-- The hidden tile of the feed-forward weights. -/
theorem blk5 (c : Dev nD) (t : Fin cfg0.N) (r k : Fin 1024) :
    (iblk m c 5 t (ix2 r k) : EReal) = m ((c.tc : Thread nD τ).loc main_arg5) (ix2 r (tile t k)) := by
  refine Eq.trans ?_ (host5 m c _)
  blk_point [iblk, idx t, tile]

theorem blk6 (c : Dev nD) (t : Fin cfg0.N) (r k : Fin 1024) :
    (iblk m c 6 t (ix2 r k) : EReal) = m ((c.tc : Thread nD τ).loc main_arg6) (ix2 (tile t r) k) := by
  refine Eq.trans ?_ (host6 m c _)
  blk_point [iblk, idx t, tile]

/-- The three gains, stacked as one array, and read one row each. -/
theorem hgain0 (c : Dev nD) (j : Fin 1024) :
    (V m c main_v3 (ix2 0 j) : EReal) = m ((c.tc : Thread nD τ).loc main_arg7) (ix1 j) := by
  blk_simp [V, hostOps0]
  after_results
  pointwise []
  repeat first
    | rw [StableHlo.unary_result]
    | (rw [StableHlo.unary_result_ne]; rotate_left; decide)
  pointwise []

theorem bgain0 (c : Dev nD) (t : Fin cfg0.N) (j : Fin 1024) :
    (View.ld (iblk m c 7 t) (Rect.unit ![0, 0] ![1, 1024] inb_S3x1024_S1x1024_0_0) (ix2 0 j) : EReal)
      = m ((c.tc : Thread nD τ).loc main_arg7) (ix1 j) := by
  refine Eq.trans ?_ (hgain0 m c j)
  pointwise []
  blk_point [iblk, idx t]

theorem hgain1 (c : Dev nD) (j : Fin 1024) :
    (V m c main_v3 (ix2 1 j) : EReal) = m ((c.tc : Thread nD τ).loc main_arg8) (ix1 j) := by
  blk_simp [V, hostOps0]
  after_results
  pointwise []
  repeat first
    | rw [StableHlo.unary_result]
    | (rw [StableHlo.unary_result_ne]; rotate_left; decide)
  pointwise []

theorem bgain1 (c : Dev nD) (t : Fin cfg0.N) (j : Fin 1024) :
    (View.ld (iblk m c 7 t) (Rect.unit ![1, 0] ![1, 1024] inb_S3x1024_S1x1024_1_0) (ix2 0 j) : EReal)
      = m ((c.tc : Thread nD τ).loc main_arg8) (ix1 j) := by
  refine Eq.trans ?_ (hgain1 m c j)
  pointwise []
  blk_point [iblk, idx t]

theorem hgain2 (c : Dev nD) (j : Fin 1024) :
    (V m c main_v3 (ix2 2 j) : EReal) = m ((c.tc : Thread nD τ).loc main_arg9) (ix1 j) := by
  blk_simp [V, hostOps0]
  after_results
  pointwise []
  repeat first
    | rw [StableHlo.unary_result]
    | (rw [StableHlo.unary_result_ne]; rotate_left; decide)
  pointwise []

theorem bgain2 (c : Dev nD) (t : Fin cfg0.N) (j : Fin 1024) :
    (View.ld (iblk m c 7 t) (Rect.unit ![2, 0] ![1, 1024] inb_S3x1024_S1x1024_2_0) (ix2 0 j) : EReal)
      = m ((c.tc : Thread nD τ).loc main_arg9) (ix1 j) := by
  refine Eq.trans ?_ (hgain2 m c j)
  pointwise []
  blk_point [iblk, idx t]

end Cert.Proof.OutFfnSample

end
-- ==== Proof.OutFfnSample.lean ====
module

public import proofs.«01_k».proof.Proof.OutFfn
public import proofs.«01_k».proof.Proof.OutFfnSampleBlocks
public import proofs.«01_k».proof.Proof.Gen.Reference7Ideal.Read
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem

namespace Cert.Proof.OutFfnSample

open Cert.Kernel7Ideal Cert.Kernel7Ideal.Gen Cert.Reference7Ideal.Read

variable (m : (ℓ : Loc nD τ sig) → Buf (Elt Ideal) ℓ)

open Cert.Proof.OutFfn (rms)

section Reference

variable (x0 : (⟨S512x1024, .f32⟩ : BufTy).Contents (Elt Ideal)) (x1 : (⟨S512x256, .f32⟩ : BufTy).Contents (Elt Ideal))
  (x2 x3 : (⟨S512x384, .f32⟩ : BufTy).Contents (Elt Ideal)) (x4 : (⟨S1024x1024, .f32⟩ : BufTy).Contents (Elt Ideal))
  (x5 : (⟨S1024x4096, .f32⟩ : BufTy).Contents (Elt Ideal)) (x6 : (⟨S4096x1024, .f32⟩ : BufTy).Contents (Elt Ideal))
  (x7 x8 x9 : (⟨S1024, .f32⟩ : BufTy).Contents (Elt Ideal)) (r : Fin 512) (j : Fin 1024)

/-- The reference's output projection of the concatenated mixers, as the sum of three products. -/
theorem ref_mix : (val_main_v1 (F := Ideal) x1 x2 x3 x4 (ix2 r j) : EReal)
    = ∑ k : Fin 256, x1 (ix2 r k) * x4 (ix2 ⟨0 + k.val, by omega⟩ j) + ∑ k : Fin 384, x2 (ix2 r k) * x4 (ix2 ⟨256 + k.val, by omega⟩ j)
      + ∑ k : Fin 384, x3 (ix2 r k) * x4 (ix2 ⟨640 + k.val, by omega⟩ j) := by
  unfold val_main_v1 val_main_v0
  pointwise []
  refine (Fin.sum_univ_add (a := 640) (b := 384) _).trans (congrArg₂ (· + ·)
    ((Fin.sum_univ_add (a := 256) (b := 384) _).trans (congrArg₂ (· + ·) ?_ ?_)) ?_)
  all_goals refine Finset.sum_congr rfl fun k _ => ?_
  · simp [Fin.castAdd, Fin.castLE]
  · simp [Fin.castAdd, Fin.castLE, Fin.natAdd]
  · have h : (640 + k.val) - 256 - 384 = k.val := by omega
    have h' : ¬ (640 + k.val) - 256 < 384 := by omega
    simp [Fin.natAdd, h, h']
    exact fun h => absurd h (by omega)

/-- The reference's residual stream after the mixers. -/
theorem ref_x1 : (val_main_v15 (F := Ideal) x0 x1 x2 x3 x4 x7 (ix2 r j) : EReal)
    = x0 (ix2 r j) + rms (fun k => val_main_v1 (F := Ideal) x1 x2 x3 x4 (ix2 r k)) (x7 (ix1 j)) j := by
  unfold val_main_v15 val_main_v14 val_main_v13 val_main_v12 val_main_v11 val_main_v10 val_main_v9 val_main_v8 val_main_v7 val_main_v6 val_main_v5 val_main_v4 val_main_v3 val_main_v2 val_main_cst val_main_cst_0 val_main_cst_1
  pointwise []
  rfl

/-- The reference's normed input of the feed-forward. -/
theorem ref_f : (val_main_v28 (F := Ideal) x0 x1 x2 x3 x4 x7 x8 (ix2 r j) : EReal)
    = rms (fun k => val_main_v15 (F := Ideal) x0 x1 x2 x3 x4 x7 (ix2 r k)) (x8 (ix1 j)) j := by
  unfold val_main_v28 val_main_v27 val_main_v26 val_main_v25 val_main_v24 val_main_v23 val_main_v22 val_main_v21 val_main_v20 val_main_v19 val_main_v18 val_main_v17 val_main_v16 val_main_cst_2 val_main_cst_3 val_main_cst_4
  pointwise []
  rfl

/-- The reference's hidden layer: one unit before its ReLU. -/
def hid (r : Fin 512) (n : Fin 4096) : EReal :=
  ∑ k : Fin 1024, val_main_v28 (F := Ideal) x0 x1 x2 x3 x4 x7 x8 (ix2 r k) * x5 (ix2 k n)

/-- The reference's feed-forward output: a sum over all hidden units. -/
theorem ref_ffn : (val_main_v32 (F := Ideal) x0 x1 x2 x3 x4 x5 x6 x7 x8 (ix2 r j) : EReal)
    = ∑ n : Fin 4096, max (hid x0 x1 x2 x3 x4 x5 x7 x8 r n) 0 * max (hid x0 x1 x2 x3 x4 x5 x7 x8 r n) 0 * x6 (ix2 n j) := by
  unfold val_main_v32 val_main_v31 val_main_v30 val_main_v29 val_main_call0_v0 val_main_call0_cst
  pointwise []
  rfl

/-- The reference's result. -/
theorem ref_out : (val_main_v46 (F := Ideal) x0 x1 x2 x3 x4 x5 x6 x7 x8 x9 (ix2 r j) : EReal)
    = val_main_v15 (F := Ideal) x0 x1 x2 x3 x4 x7 (ix2 r j)
      + rms (fun k => val_main_v32 (F := Ideal) x0 x1 x2 x3 x4 x5 x6 x7 x8 (ix2 r k)) (x9 (ix1 j)) j := by
  unfold val_main_v46 val_main_v45 val_main_v44 val_main_v43 val_main_v42 val_main_v41 val_main_v40 val_main_v39 val_main_v38 val_main_v37 val_main_v36 val_main_v35 val_main_v34 val_main_v33 val_main_cst_5 val_main_cst_6 val_main_cst_7
  pointwise []
  rfl

end Reference

/-- The residual stream after the mixers that a point of the first feed-forward tile computes: the reference's rows. -/
theorem pay_x1 (c : Dev nD) (t : Fin cfg0.N) (r : Fin 512) (j : Fin 1024) :
    ((k0_pay5 (iblk m c 1 t) (View.ld (iblk m c 4 t) (Rect.unit ![0, 0] ![256, 1024] inb_S1024x1024_S256x1024_0_0))
      (iblk m c 2 t) (View.ld (iblk m c 4 t) (Rect.unit ![256, 0] ![384, 1024] inb_S1024x1024_S384x1024_256_0))
      (iblk m c 3 t) (View.ld (iblk m c 4 t) (Rect.unit ![640, 0] ![384, 1024] inb_S1024x1024_S384x1024_640_0))
      (iblk m c 0 t) (View.ld (iblk m c 7 t) (Rect.unit ![0, 0] ![1, 1024] inb_S3x1024_S1x1024_0_0))) (ix2 r j) : EReal)
      = val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (ix2 r j) := by
  rw [ref_x1]
  simp only [ref_mix, ← blk0 m c t, ← blk1 m c t, ← blk2 m c t, ← blk3 m c t, ← blk4_0 m c t, ← blk4_256 m c t, ← blk4_640 m c t, ← bgain0 m c t]
  pointwise [k0_pay5]
  rfl

/-- The kernel's norm of the residual rows. -/
theorem pay_f (a : FVec Ideal S512x1024 .f32) (g : Vec Ideal S1x1024 .f32) (r : Fin 512) (j : Fin 1024) :
    (k0_pay1 (F := Ideal) a g (ix2 r j) : EReal) = rms (fun k => a (ix2 r k)) (g (ix2 0 j)) j :=
  OutFfn.pay_f a g r j

/-- One accumulation step over a hidden tile. -/
theorem pay_acc (f : Vec Ideal S512x1024 .bf16) (u : Vec Ideal S1024x1024 .bf16) (a : Vec Ideal S512x1024 .f32)
    (d : Vec Ideal S1024x1024 .bf16) (r : Fin 512) (j : Fin 1024) :
    (k0_pay3 (F := Ideal) f u a d (ix2 r j) : EReal)
      = a (ix2 r j) + ∑ n : Fin 1024, max (∑ k : Fin 1024, (f (ix2 r k) : EReal) * u (ix2 k n)) 0
          * max (∑ k : Fin 1024, (f (ix2 r k) : EReal) * u (ix2 k n)) 0 * d (ix2 n j) :=
  OutFfn.pay_acc f u a d r j

/-- What the kernel writes out: residual plus normed accumulator. -/
theorem pay_out (x a : Vec Ideal S512x1024 .f32) (g : Vec Ideal S1x1024 .f32) (r : Fin 512) (j : Fin 1024) :
    (k0_pay4 (F := Ideal) x a g (ix2 r j) : EReal) = x (ix2 r j) + rms (fun k => a (ix2 r k)) (g (ix2 0 j)) j :=
  OutFfn.pay_out x a g r j

/-- The reference's residual stream after the mixers, at device `c`'s arguments. -/
abbrev refX1 (c : Dev nD) : Fin 512 → Fin 1024 → EReal := fun r j =>
  val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (ix2 r j)

/-- The reference's normed input of the feed-forward, at device `c`'s arguments. -/
abbrev refF (c : Dev nD) : Fin 512 → Fin 1024 → EReal := fun r j =>
  val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (ix2 r j)

/-- The reference's hidden unit `n` of row `r` before its ReLU, at device `c`'s arguments. -/
abbrev refHid (c : Dev nD) : Fin 512 → Fin 4096 → EReal :=
  hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))

/-- What one feed-forward tile adds to the accumulator, over the reference's hidden units. -/
def part (c : Dev nD) (t : Fin cfg0.N) (y : S512x1024.Idx) : EReal :=
  ∑ n : Fin 1024, max (refHid m c (y 0) (tile t n)) 0 * max (refHid m c (y 0) (tile t n)) 0
    * m ((c.tc : Thread nD τ).loc main_arg6) (ix2 (tile t n) (y 1))

/-- From the reference's normed rows, an accumulation step adds that tile's part. -/
theorem part_eq (c : Dev nD) (t : Fin cfg0.N) (f : Vec Ideal S512x1024 .bf16) (a : Vec Ideal S512x1024 .f32)
    (hf : ∀ r k, (f (ix2 r k) : EReal) = refF m c r k) (r : Fin 512) (j : Fin 1024) :
    (k0_pay3 (F := Ideal) f (iblk m c 5 t) a (iblk m c 6 t) (ix2 r j) : EReal) = a (ix2 r j) + part m c t (ix2 r j) := by
  rw [pay_acc]
  simp only [hf, blk5 m c t, blk6 m c t]
  rfl

/-- A point that starts the row tile leaves the reference's rows in the residual scratch. -/
theorem x1_A (c : Dev nD) (t : Fin cfg0.N) (h0 : t.val % 4 = 0) (r : Fin 512) (j : Fin 1024) :
    ((outsAt0 m c t.val t.isLt).2.1 (ix2 r j) : EReal) = refX1 m c r j := by
  rw [outsAt0_A m c t h0 (by omega)]
  frame_out
  exact (congrFun (shapeCast_self _ _) _).trans (pay_x1 m c t r j)

/-- … the reference's normed rows in the second scratch, -/
theorem f_A (c : Dev nD) (t : Fin cfg0.N) (h0 : t.val % 4 = 0) (r : Fin 512) (j : Fin 1024) :
    ((outsAt0 m c t.val t.isLt).2.2.1 (ix2 r j) : EReal) = refF m c r j := by
  rw [outsAt0_A m c t h0 (by omega)]
  frame_out
  rw [pay_f, bgain1 m c t, refF, ref_f]
  exact congrArg (fun z => rms z _ j) (funext fun k => pay_x1 m c t r k)

/-- … and the first tile's part in the accumulator. -/
theorem acc_A (c : Dev nD) (t : Fin cfg0.N) (h0 : t.val % 4 = 0) (r : Fin 512) (j : Fin 1024) :
    ((outsAt0 m c t.val t.isLt).2.2.2 (ix2 r j) : EReal) = 0 + part m c t (ix2 r j) := by
  rw [outsAt0_A m c t h0 (by omega)]
  frame_out
  refine (part_eq m c t _ _ (fun r k => ?_) r j).trans ?_
  · rw [pay_f, bgain1 m c t, refF, ref_f]
    exact congrArg (fun z => rms z _ k) (funext fun q => pay_x1 m c t r q)
  · pointwise [k0_pay2]

/-- Every later point keeps the residual scratch and the normed rows, and adds its tile to the accumulator. -/
theorem step (c : Dev nD) (t : Fin cfg0.N) (h0 : ¬ t.val % 4 = 0) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2 = k0_pay3 (outsAt0 m c (t.val - 1) (Nat.lt_of_le_of_lt (Nat.sub_le _ _) t.isLt)).2.2.1
        (iblk m c 5 t) (outsAt0 m c (t.val - 1) (Nat.lt_of_le_of_lt (Nat.sub_le _ _) t.isLt)).2.2.2 (iblk m c 6 t) := by
  by_cases h1 : t.val % 4 = 3
  · rw [outsAt0_C m c t h0 h1]
    refine ⟨?_, ?_, ?_⟩
    · rfl
    · rfl
    · frame_out
      simp only [read_unread_whole]
  · rw [outsAt0_B m c t h0 h1]
    refine ⟨?_, ?_, ?_⟩
    · rfl
    · rfl
    · frame_out
      simp only [read_unread_whole]

/-- The point of the last hidden tile writes out the residual stream plus the normed accumulator. -/
theorem out_C (c : Dev nD) (t : Fin cfg0.N) (h1 : t.val % 4 = 3) :
    (outsAt0 m c t.val t.isLt).1 = k0_pay4 (outsAt0 m c t.val t.isLt).2.1 (outsAt0 m c t.val t.isLt).2.2.2
      (View.ld (iblk m c 7 t) (Rect.unit ![2, 0] ![1, 1024] inb_S3x1024_S1x1024_2_0)) := by
  have h0 : ¬ t.val % 4 = 0 := by omega
  obtain ⟨e1, e2, e3⟩ := step m c t h0
  rw [e1, e3, outsAt0_C m c t h0 h1]
  frame_out
  simp only [read_unread_whole]
  rfl

/-- A scratch written at the first point and kept after it holds the same rows at every point. -/
theorem held (g : (n : Nat) → n < cfg0.N → S512x1024.Idx → EReal) (R : Fin 512 → Fin 1024 → EReal)
    (hA : ∀ t : Fin cfg0.N, t.val % 4 = 0 → ∀ r j, g t.val t.isLt (ix2 r j) = R r j)
    (hS : ∀ t : Fin cfg0.N, ¬ t.val % 4 = 0 → g t.val t.isLt = g (t.val - 1) (Nat.lt_of_le_of_lt (Nat.sub_le _ _) t.isLt))
    (t : Fin cfg0.N) (r : Fin 512) (j : Fin 1024) : g t.val t.isLt (ix2 r j) = R r j :=
  congrFun (congrFun (Pipeline.eq_of_write_hold (fun n h r j => g n h (ix2 r j)) 4 (fun _ r j => R r j)
    (fun t h => funext fun r => funext fun j => hA t h r j) (fun t h => by rw [hS t h]) t) r) j

/-- The residual scratch at every point. -/
theorem x1_at (c : Dev nD) (t : Fin cfg0.N) (r : Fin 512) (j : Fin 1024) :
    ((outsAt0 m c t.val t.isLt).2.1 (ix2 r j) : EReal) = refX1 m c r j :=
  held (fun n h => (outsAt0 m c n h).2.1) (refX1 m c) (x1_A m c) (fun t h => (step m c t h).1) t r j

/-- The normed rows at every point. -/
theorem f_at (c : Dev nD) (t : Fin cfg0.N) (r : Fin 512) (j : Fin 1024) :
    ((outsAt0 m c t.val t.isLt).2.2.1 (ix2 r j) : EReal) = refF m c r j :=
  held (fun n h => (outsAt0 m c n h).2.2.1) (refF m c) (f_A m c) (fun t h => (step m c t h).2.1) t r j

/-- The accumulator at a later point after the first. -/
theorem acc_S (c : Dev nD) (t : Fin cfg0.N) (h0 : ¬ t.val % 4 = 0) (r : Fin 512) (j : Fin 1024) :
    ((outsAt0 m c t.val t.isLt).2.2.2 (ix2 r j) : EReal)
      = (outsAt0 m c (t.val - 1) (Nat.lt_of_le_of_lt (Nat.sub_le _ _) t.isLt)).2.2.2 (ix2 r j) + part m c t (ix2 r j) := by
  obtain ⟨-, e2, e3⟩ := step m c t h0
  rw [e3, ← e2]
  exact part_eq m c t _ _ (f_at m c t) r j

/-- At the point of the last hidden tile the accumulator holds the reference's feed-forward rows. -/
theorem acc_C (c : Dev nD) (t : Fin cfg0.N) (h1 : t.val % 4 = 3) (r : Fin 512) (j : Fin 1024) :
    ((outsAt0 m c t.val t.isLt).2.2.2 (ix2 r j) : EReal)
      = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r j) := by
  have h := congrFun (congrFun (Pipeline.eq_sum_fin_of_reset_step_of_flush
    (fun n h (r : Fin 512) (j : Fin 1024) => ((outsAt0 m c n h).2.2.2 (ix2 r j) : EReal)) 4 (fun _ _ => 0) (fun t r j => part m c t (ix2 r j))
    (fun t h => funext fun r => funext fun j => acc_A m c t h r j)
    (fun t h => funext fun r => funext fun j => acc_S m c t h r j) t h1) r) j
  refine h.trans ?_
  rw [ref_ffn, Pi.add_apply, Pi.add_apply, Finset.sum_apply, Finset.sum_apply, zero_add]
  refine Fin.sum_mul_add_congr (S := 4) (n := 1024) fun s k hl => ?_
  have ht : tile ⟨4 * (t.val / 4) + s.val, Pipeline.run_point_lt_of_flush t h1 s⟩ k = ⟨s.val * 1024 + k.val, hl⟩ := Fin.ext (by
    show (4 * (t.val / 4) + s.val) * 1024 + k.val = s.val * 1024 + k.val
    have := t.isLt; have : cfg0.N = 4 := rfl; omega)
  show max (refHid m c r (tile _ k)) 0 * max (refHid m c r (tile _ k)) 0 * _ = _
  rw [ht]
  rfl

/-- What the last point writes is the reference's result on its rows. -/
theorem out_at (c : Dev nD) (t : Fin cfg0.N) (h1 : t.val % 4 = 3) (r : Fin 512) (j : Fin 1024) :
    (k0_pay4 (outsAt0 m c t.val t.isLt).2.1 (outsAt0 m c t.val t.isLt).2.2.2
      (View.ld (iblk m c 7 t) (Rect.unit ![2, 0] ![1, 1024] inb_S3x1024_S1x1024_2_0)) (ix2 r j) : EReal)
      = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r j) := by
  refine (pay_out _ _ _ r j).trans (Eq.trans ?_ (ref_out _ _ _ _ _ _ _ _ _ _ r j).symm)
  refine congrArg₂ (· + ·) (x1_at m c t r j) ?_
  rw [bgain2 m c t]
  exact congrArg (fun z => rms z _ j) (funext fun k => acc_C m c t h1 r k)

/-- After the run the output array is the reference's result. -/
theorem final8 (c : Dev nD) : (dats m 0 c).arrAt 8 cfg0.N
    = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 8 _ (by decide +kernel) fun t hf y => ?_
  have h1 : t.val % 4 = 3 := (flush0_8 t).mp hf
  blk_simp
  rw [after0_8, out_C m c t h1]
  have hy : (win0_8.blk t).view.emb y = ix2 (y 0) (y 1) := by blk_ext [idx t]
  have ey : y = ix2 (n0 := 512) (n1 := 1024) (y 0) (y 1) := by ext a; fin_cases a <;> rfl
  exact (congrArg _ ey).trans ((out_at m c t h1 (y 0) (y 1)).trans (congrArg _ hy.symm))

end Cert.Proof.OutFfnSample

end
-- ==== Proof.OutFfnSampleClaim.lean ====
module

public import proofs.«01_k».proof.Defs
public import proofs.«01_k».proof.Proof.OutFfnSample

@[expose] public section

set_option maxRecDepth 16384

noncomputable section

open Idealize.ShloMosaic Idealize.ShloMosaic.TcCoe Idealize.SL.Sem

namespace Cert.Proof.OutFfnSample

open Cert.Reference7Ideal.Read

/-- The output projection and feed-forward of the sample batch: from equal arguments, kernel and reference end with the same array. -/
theorem algebraic : Cert.algebraic_Kernel7Ideal_Reference7Ideal := fun m g m' g' _ hA => by
  refine ⟨fun c => (Cert.Kernel7Ideal.Gen.dats m 0 c).arrAt 8 Cert.Kernel7Ideal.cfg0.N,
    Cert.Kernel7Ideal.Value.run_blocks m g, ?_⟩
  refine (θ_run Cert.Reference7Ideal.defs _ _).mono (fun r h c => ?_) (Cert.Reference7Ideal.Value.run m' g')
  obtain ⟨h46, ha⟩ := h c
  obtain ⟨e0, e1, e2, e3, e4, e5, e6, e7, e8, e9⟩ := hA c
  refine ⟨?_, ha⟩
  refine h46.trans ((val_main_v46_eq _ _).trans ?_)
  rw [e0, e1, e2, e3, e4, e5, e6, e7, e8, e9]; exact (final8 m c).symm

end Cert.Proof.OutFfnSample

end
-- ==== Proof.lean ====
module

public import proofs.«01_k».proof.Defs
public import proofs.«01_k».proof.Proof.KernelFrame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Frames
public import proofs.«01_k».proof.Proof.AttnFrame
public import proofs.«01_k».proof.Proof.AttnClaim
public import proofs.«01_k».proof.Proof.InProjClaim
public import proofs.«01_k».proof.Proof.OutFfnClaim
public import proofs.«01_k».proof.Proof.Gen.Kernel4.Frame
public import proofs.«01_k».proof.Proof.Gen.Kernel5.Frame
public import proofs.«01_k».proof.Proof.SConvClaim
public import proofs.«01_k».proof.Proof.SConvSampleClaim
public import proofs.«01_k».proof.Proof.Gen.Kernel6.Frame
public import proofs.«01_k».proof.Proof.Gen.Kernel7.Frame
public import proofs.«01_k».proof.Proof.InProjSampleClaim
public import proofs.«01_k».proof.Proof.OutFfnSampleClaim
public import Idealize.ShloMosaic.PureOps.IdealRules

@[expose] public section

noncomputable section

namespace Cert.Proof

open Idealize.ShloMosaic Idealize.SL.Sem

/-- The two constants that the attention's idealized kernel names have the values their names say. -/
theorem preserves_attn : Cert.preserves_Kernel_KernelIdeal :=
  ⟨IdealRules.named_const.statement _ "neg_scale_log2_e" .f32 0xBE38AA3B#32 _ rfl,
   IdealRules.named_const.statement _ "log2_e" .f32 0x3FB8AA3B#32 _ rfl⟩

/-- Everything the certificate claims. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts, finite_facts,
   fun m ρ _ => Cert.Kernel.Attn.frame m ρ,
   fun m ρ _ => Cert.KernelIdeal.Attn.frame m ρ,
   fun m ρ _ => Cert.KernelIdeal.Attn.frame m ρ,
   frame_ri,
   fun m ρ _ => frame_ri m ρ trivial,
   fun m ρ _ => Cert.Kernel2.Gen.frame m ρ,
   fun m ρ _ => Cert.Kernel2Ideal.Gen.frame m ρ,
   frame_r2i,
   fun m ρ _ => Cert.Kernel3.Gen.frame m ρ,
   fun m ρ _ => Cert.Kernel3Ideal.Gen.frame m ρ,
   frame_r3i,
   fun m ρ _ => Cert.Kernel4.Gen.frame m ρ,
   fun m ρ _ => Cert.Kernel4Ideal.Gen.frame m ρ,
   frame_r4i,
   fun m ρ _ => Cert.Kernel5.Gen.frame m ρ,
   fun m ρ _ => Cert.Kernel5Ideal.Gen.frame m ρ,
   frame_r5i,
   fun m ρ _ => Cert.Kernel6.Gen.frame m ρ,
   fun m ρ _ => Cert.Kernel6Ideal.Gen.frame m ρ,
   frame_r6i,
   fun m ρ _ => Cert.Kernel7.Gen.frame m ρ,
   fun m ρ _ => Cert.Kernel7Ideal.Gen.frame m ρ,
   frame_r7i,
   preserves_attn,
   Attn.algebraic,
   trivial,
   OutFfn.algebraic,
   trivial,
   InProj.algebraic,
   trivial,
   SConv.algebraic,
   trivial,
   SConvSample.algebraic,
   trivial,
   InProjSample.algebraic,
   trivial,
   OutFfnSample.algebraic⟩

end Cert.Proof

end
